-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2]⟩ ⟨2, ![512, 4]⟩ (Layout.meshBlock [2, 2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2, 2] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 512]⟩ ⟨2, ![512, 512]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v61) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x512 : Shape := ⟨2, ![256, 512]⟩
abbrev S512x2 : Shape := ⟨2, ![512, 2]⟩
abbrev S2x512x1024 : Shape := ⟨3, ![2, 512, 1024]⟩
abbrev S2x1024x512 : Shape := ⟨3, ![2, 1024, 512]⟩
abbrev S256x2 : Shape := ⟨2, ![256, 2]⟩
abbrev S8 : Shape := ⟨1, ![8]⟩
abbrev S2 : Shape := ⟨1, ![2]⟩
abbrev S1 : Shape := ⟨1, ![1]⟩
abbrev S_ : Shape := ⟨0, ![]⟩
abbrev S256x1 : Shape := ⟨2, ![256, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S256x1024 : Shape := ⟨2, ![256, 1024]⟩

abbrev nBuf : Space → Nat
  | .hbm => 5
  | .vmem => 12
  | .smem => 0
  | _ => 0

abbrev bufTy : (tb : Table) → Fin (tcTables nBuf tb) → BufTy
  | .hbm, ⟨0, _⟩ => ⟨S256x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S256x512, .f32⟩
  | .local _ .vmem, ⟨0, _⟩ => ⟨S256x512, .f32⟩
  | .local _ .vmem, ⟨1, _⟩ => ⟨S512x2, .f32⟩
  | .local _ .vmem, ⟨2, _⟩ => ⟨S256x512, .f32⟩
  | .local _ .vmem, ⟨3, _⟩ => ⟨S256x512, .bf16⟩
  | .local _ .vmem, ⟨4, _⟩ => ⟨S256x512, .bf16⟩
  | .local _ .vmem, ⟨5, _⟩ => ⟨S512x2, .f32⟩
  | .local _ .vmem, ⟨6, _⟩ => ⟨S256x2, .f32⟩
  | .local _ .vmem, ⟨7, _⟩ => ⟨S256x2, .f32⟩
  | .local _ .vmem, ⟨8, _⟩ => ⟨S256x512, .bf16⟩
  | .local _ .vmem, ⟨9, _⟩ => ⟨S256x512, .bf16⟩
  | .local _ .vmem, ⟨10, _⟩ => ⟨S2x512x1024, .f32⟩
  | .local _ .vmem, ⟨11, _⟩ => ⟨S2x1024x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_7 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_6 : BitVec 32 := 4#32
  let v15 : BitVec 32 := Scalar.muli v9 c4_i32_6
  let v16 : BitVec 32 := Scalar.addi c0_i32_7 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v17 : BitVec 32 := Scalar.muli v5 c2_i32_8
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v19 : BitVec 32 := Scalar.muli v8 c1_i32_9
  let v20 : BitVec 32 := Scalar.addi v18 v19
  v20.toNat
def k0_dev2 (d0 : Dev nD) : Nat :=
  let c0_i32_17 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_16 : BitVec 32 := 4#32
  let v27 : BitVec 32 := Scalar.muli v9 c4_i32_16
  let v28 : BitVec 32 := Scalar.addi c0_i32_17 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v29 : BitVec 32 := Scalar.muli v5 c2_i32_18
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v31 : BitVec 32 := Scalar.muli v8 c1_i32_19
  let v32 : BitVec 32 := Scalar.addi v30 v31
  v32.toNat
def k0_dev3 (d0 : Dev nD) : Nat :=
  let c0_i32_22 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_21 : BitVec 32 := 4#32
  let v37 : BitVec 32 := Scalar.muli v9 c4_i32_21
  let v38 : BitVec 32 := Scalar.addi c0_i32_22 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v39 : BitVec 32 := Scalar.muli v5 c2_i32_23
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v41 : BitVec 32 := Scalar.muli v8 c1_i32_24
  let v42 : BitVec 32 := Scalar.addi v40 v41
  v42.toNat
def k0_dev4 (d0 : Dev nD) : Nat :=
  let c0_i32_49 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_48 : BitVec 32 := 4#32
  let v108 : BitVec 32 := Scalar.muli v9 c4_i32_48
  let v109 : BitVec 32 := Scalar.addi c0_i32_49 v108
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v110 : BitVec 32 := Scalar.muli v5 c2_i32_50
  let v111 : BitVec 32 := Scalar.addi v109 v110
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_51 : BitVec 32 := 1#32
  let v112 : BitVec 32 := Scalar.muli v8 c1_i32_51
  let v113 : BitVec 32 := Scalar.addi v111 v112
  v113.toNat
def k0_dev5 (d0 : Dev nD) : Nat :=
  let c0_i32_99 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_98 : BitVec 32 := 4#32
  let v178 : BitVec 32 := Scalar.muli v9 c4_i32_98
  let v179 : BitVec 32 := Scalar.addi c0_i32_99 v178
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_100 : BitVec 32 := 2#32
  let v180 : BitVec 32 := Scalar.muli v5 c2_i32_100
  let v181 : BitVec 32 := Scalar.addi v179 v180
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_101 : BitVec 32 := 1#32
  let v182 : BitVec 32 := Scalar.muli v8 c1_i32_101
  let v183 : BitVec 32 := Scalar.addi v181 v182
  v183.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S512x2 : Shape := ⟨2, ![512, 2]⟩
abbrev S512x1 : Shape := ⟨2, ![512, 1]⟩
abbrev S_ : Shape := ⟨0, ![]⟩
abbrev S512 : Shape := ⟨1, ![512]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 77
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x4, .f32⟩
  | .hbm, ⟨2, _⟩ => ⟨S4x512x1024, .f32⟩
  | .hbm, ⟨3, _⟩ => ⟨S4x1024x512, .f32⟩
  | .hbm, ⟨4, _⟩ => ⟨S512x4, .f32⟩
  | .hbm, ⟨5, _⟩ => ⟨S512x2, .f32⟩
  | .hbm, ⟨6, _⟩ => ⟨S512x2, .i32⟩
  | .hbm, ⟨7, _⟩ => ⟨S512x1, .f32⟩
  | .hbm, ⟨8, _⟩ => ⟨S512x4, .f32⟩
  | .hbm, ⟨9, _⟩ => ⟨S512x4, .i1⟩
  | .hbm, ⟨10, _⟩ => ⟨S512x1, .f32⟩
  | .hbm, ⟨11, _⟩ => ⟨S512x4, .f32⟩
  | .hbm, ⟨12, _⟩ => ⟨S512x4, .f32⟩
  | .hbm, ⟨13, _⟩ => ⟨S512x4, .f32⟩
  | .hbm, ⟨14, _⟩ => ⟨S_, .f32⟩
  | .hbm, ⟨15, _⟩ => ⟨S_, .f32⟩
  | .hbm, ⟨16, _⟩ => ⟨S512x4, .f32⟩
  | .hbm, ⟨17, _⟩ => ⟨S512x4, .f32⟩
  | .hbm, ⟨18, _⟩ => ⟨S_, .f32⟩
  | .hbm, ⟨19, _⟩ => ⟨S512, .f32⟩
  | .hbm, ⟨20, _⟩ => ⟨S512x1, .f32⟩
  | .hbm, ⟨21, _⟩ => ⟨S512x4, .f32⟩
  | .hbm, ⟨22, _⟩ => ⟨S512x4, .f32⟩
  | .hbm, ⟨23, _⟩ => ⟨S_, .f32⟩
  | .hbm, ⟨24, _⟩ => ⟨S512x512, .f32⟩
  | .hbm, ⟨25, _⟩ => ⟨S1x512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S1x1024x512, .f32⟩
  | .hbm, ⟨32, _⟩ => ⟨S1024x512, .f32⟩
  | .hbm, ⟨33, _⟩ => ⟨S512x512, .f32⟩
  | .hbm, ⟨34, _⟩ => ⟨S512x1, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S1x512x1024, .f32⟩
  | .hbm, ⟨39, _⟩ => ⟨S512x1024, .f32⟩
  | .hbm, ⟨40, _⟩ => ⟨S512x1024, .f32⟩
  | .hbm, ⟨41, _⟩ => ⟨S_, .f32⟩
  | .hbm, ⟨42, _⟩ => ⟨S512x1024, .f32⟩
  | .hbm, ⟨43, _⟩ => ⟨S512x1024, .f32⟩
  | .hbm, ⟨44, _⟩ => ⟨S1x1024x512, .f32⟩
  | .hbm, ⟨45, _⟩ => ⟨S1024x512, .f32⟩
  | .hbm, ⟨46, _⟩ => ⟨S512x512, .f32⟩
  | .hbm, ⟨47, _⟩ => ⟨S512x1, .f32⟩
  | .hbm, ⟨48, _⟩ => ⟨S512x512, .f32⟩
  | .hbm, ⟨49, _⟩ => ⟨S512x512, .f32⟩
  | .hbm, ⟨50, _⟩ => ⟨S512x512, .f32⟩
  | .hbm, ⟨51, _⟩ => ⟨S1x512x1024, .f32⟩
  | .hbm, ⟨52, _⟩ => ⟨S512x1024, .f32⟩
  | .hbm, ⟨53, _⟩ => ⟨S512x1024, .f32⟩
  | .hbm, ⟨54, _⟩ => ⟨S_, .f32⟩
  | .hbm, ⟨55, _⟩ => ⟨S512x1024, .f32⟩
  | .hbm, ⟨56, _⟩ => ⟨S512x1024, .f32⟩
  | .hbm, ⟨57, _⟩ => ⟨S1x1024x512, .f32⟩
  | .hbm, ⟨58, _⟩ => ⟨S1024x512, .f32⟩
  | .hbm, ⟨59, _⟩ => ⟨S512x512, .f32⟩
  | .hbm, ⟨60, _⟩ => ⟨S512x1, .f32⟩
  | .hbm, ⟨61, _⟩ => ⟨S512x512, .f32⟩
  | .hbm, ⟨62, _⟩ => ⟨S512x512, .f32⟩
  | .hbm, ⟨63, _⟩ => ⟨S512x512, .f32⟩
  | .hbm, ⟨64, _⟩ => ⟨S1x512x1024, .f32⟩
  | .hbm, ⟨65, _⟩ => ⟨S512x1024, .f32⟩
  | .hbm, ⟨66, _⟩ => ⟨S512x1024, .f32⟩
  | .hbm, ⟨67, _⟩ => ⟨S_, .f32⟩
  | .hbm, ⟨68, _⟩ => ⟨S512x1024, .f32⟩
  | .hbm, ⟨69, _⟩ => ⟨S512x1024, .f32⟩
  | .hbm, ⟨70, _⟩ => ⟨S1x1024x512, .f32⟩
  | .hbm, ⟨71, _⟩ => ⟨S1024x512, .f32⟩
  | .hbm, ⟨72, _⟩ => ⟨S512x512, .f32⟩
  | .hbm, ⟨73, _⟩ => ⟨S512x1, .f32⟩
  | .hbm, ⟨74, _⟩ => ⟨S512x512, .f32⟩
  | .hbm, ⟨75, _⟩ => ⟨S512x512, .f32⟩
  | .hbm, ⟨76, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_5 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩

abbrev nD : Nat := 1
abbrev τ : Topo := Topo.v7x

variable {F : FTy → Type} [FloatOps F]
-- ==== Proof.Moe.lean ====
/-
  The mathematics of the mixture of experts, one row at a time, over the extended reals: the two largest of four gates
  as the kernel finds them and as a sort finds them, the weights, and one expert's output.
-/
module

public import Idealize.ShloMosaic.Lib.Pointwise
public import Idealize.ShloMosaic.Lib.SortFacts

@[expose] public section

noncomputable section

namespace Cert.Moe

open Idealize.ShloMosaic

/-! ## The two largest of four numbers -/

section order
variable {α : Type} [LinearOrder α]

/-- The largest of four numbers, taken pair by pair. -/
def top (a b c d : α) : α := max (max a b) (max c d)

/-- The second largest of four numbers (the largest again if it occurs twice), taken pair by pair. -/
def second (a b c d : α) : α :=
  if max c d ≤ max a b then max (min a b) (max c d) else max (min c d) (max a b)

/-- The second largest, by maxima and minima alone. -/
theorem second_eq (a b c d : α) : second a b c d = max (min (max a b) (max c d)) (max (min a b) (min c d)) := by
  have hab : min a b ≤ max a b := min_le_max
  have hcd : min c d ≤ max c d := min_le_max
  unfold second
  split
  · rename_i h
    rw [min_eq_right h, max_left_comm (max c d) (min a b) (min c d), max_eq_left hcd]
  · rename_i h
    rw [min_eq_left (le_of_not_ge h), ← max_assoc (max a b) (min a b) (min c d), max_eq_left hab, max_comm]

/-- Exchanging the two pairs changes neither. -/
theorem top_swap (a b c d : α) : top c d a b = top a b c d := max_comm _ _
theorem second_swap (a b c d : α) : second c d a b = second a b c d := by
  rw [second_eq, second_eq, min_comm (max c d), max_comm (min c d)]

/-- If four positions enumerate four numbers downwards, the number at the first is the largest. -/
theorem top_of_sorted (g : Fin 4 → α) (σ : Fin 4 → Fin 4) (hσ : Function.Injective σ)
    (h : ∀ i j : Fin 4, i < j → g (σ j) ≤ g (σ i)) : g (σ 0) = top (g 0) (g 1) (g 2) (g 3) := by
  have hs : Function.Surjective σ := Finite.injective_iff_surjective.mp hσ
  have hall : ∀ e : Fin 4, g e ≤ g (σ 0) := fun e => by
    obtain ⟨i, rfl⟩ := hs e
    rcases eq_or_ne i 0 with rfl | hi
    · exact le_refl _
    · exact h 0 i (Fin.pos_of_ne_zero hi)
  apply le_antisymm
  · have : ∀ e : Fin 4, g e ≤ top (g 0) (g 1) (g 2) (g 3) := fun e => by
      unfold top; fin_cases e <;> simp
    exact this _
  · unfold top
    exact max_le (max_le (hall 0) (hall 1)) (max_le (hall 2) (hall 3))

/-- … and the number at the second position is the second largest. -/
theorem second_of_sorted (g : Fin 4 → α) (σ : Fin 4 → Fin 4) (hσ : Function.Injective σ)
    (h : ∀ i j : Fin 4, i < j → g (σ j) ≤ g (σ i)) : g (σ 1) = second (g 0) (g 1) (g 2) (g 3) := by
  have hs : Function.Surjective σ := Finite.injective_iff_surjective.mp hσ
  -- every number but the first is at most the one at the second position
  have hrest : ∀ e : Fin 4, e ≠ σ 0 → g e ≤ g (σ 1) := fun e he => by
    obtain ⟨i, rfl⟩ := hs e
    have hi : i ≠ 0 := fun h0 => he (by rw [h0])
    rcases eq_or_ne i 1 with rfl | hi1
    · exact le_refl _
    · exact h 1 i (by omega)
  have h01 : g (σ 1) ≤ g (σ 0) := h 0 1 (by decide)
  have hne : σ 0 ≠ σ 1 := fun e => absurd (hσ e) (by decide)
  have hother : ∀ p q : Fin 4, p ≠ q → min (g p) (g q) ≤ g (σ 1) := fun p q hpq => by
    rcases eq_or_ne p (σ 0) with hp | hp
    · exact (min_le_right _ _).trans (hrest q fun hq => hpq (hp.trans hq.symm))
    · exact (min_le_left _ _).trans (hrest p hp)
  rw [second_eq]
  apply le_antisymm
  · have key : ∀ p q : Fin 4, p ≠ q → min (g p) (g q) ≤ max (min (max (g 0) (g 1)) (max (g 2) (g 3))) (max (min (g 0) (g 1)) (min (g 2) (g 3))) := by
      intro p q hpq
      fin_cases p <;> fin_cases q <;> first | exact absurd rfl hpq | simp
    exact (le_min h01 (le_refl _)).trans (key _ _ hne)
  · refine max_le ?_ (max_le (hother 0 1 (by decide)) (hother 2 3 (by decide)))
    rcases max_choice (g 0) (g 1) with e1 | e1 <;> rcases max_choice (g 2) (g 3) with e2 | e2 <;> rw [e1, e2] <;>
      exact hother _ _ (by decide)

end order

/-! ## The weights -/

/-- What a gate `g` contributes when `t` is the largest gate and `s` the second largest: `exp (g - t)` if it is one of
    the two largest, nothing otherwise. -/
def mass (t s g : EReal) : EReal := if s ≤ g then Ideal.exp (g - t) else 0

/-- The weight of gate `g` among the four gates `a b c d`. -/
def weight (a b c d g : EReal) : EReal :=
  Ideal.div (mass (top a b c d) (second a b c d) g)
    (mass (top a b c d) (second a b c d) a + mass (top a b c d) (second a b c d) b
      + mass (top a b c d) (second a b c d) c + mass (top a b c d) (second a b c d) d)

/-- Exchanging the two pairs of gates changes no weight. -/
theorem weight_swap (a b c d g : EReal) : weight c d a b g = weight a b c d g := by
  unfold weight
  rw [top_swap, second_swap]
  congr 1
  ac_rfl

/-! ## One expert -/

/-- The gate of a row `x` against one column of the router. -/
def gate (x r : Fin 512 → EReal) : EReal := ∑ k, x k * r k

/-- One expert's output at column `l`, of a row `x`. -/
def expert (x : Fin 512 → EReal) (w1 : Fin 512 → Fin 1024 → EReal) (w2 : Fin 1024 → Fin 512 → EReal) (l : Fin 512) : EReal :=
  ∑ h, max (∑ k, x k * w1 k h) 0 * w2 h l

/-! ## The two largest entries of a row, as the host's top-k gives them -/

/-- The host's two largest of each row of four, at a row and a place: the entry at the place-th sorted position. -/
theorem topK_apply (g : (⟨2, ![512, 4]⟩ : Shape).Idx → EReal) (h : (⟨2, ![512, 4]⟩ : Shape).Slices (fun _ => 0) ⟨2, ![512, 2]⟩)
    (r : Fin 512) (k : Fin 2) :
    (Host.topK (α := Ideal .f32) ⟨2, ![512, 2]⟩ 1 (FloatOps.cmpfTotal .gt) g h).1 (ix2 r k)
      = g (ix2 r (sortedFrom (n := 4) (fun p q => FloatOps.cmpfTotal (F := Ideal) (φ := .f32) .gt (g (ix2 r p)) (g (ix2 r q)) == 1#1) (k.castLE (by decide)))) := by
  have hal : ∀ (q p : Fin 4), (ix2 r q : (⟨2, ![512, 4]⟩ : Shape).Idx).along 1 p = ix2 r p := fun q p =>
    funext fun a => by fin_cases a <;> rfl
  pointwise [Host.topK, Host.sort2]
  rw [hal]
  simp only [hal]
  rfl

/-- The sorted positions put no larger number after a smaller one. -/
theorem sorted_le (g : Fin 4 → EReal) (i j : Fin 4) (hij : i < j) :
    g (sortedFrom (fun p q => FloatOps.cmpfTotal (F := Ideal) (φ := .f32) .gt (g p) (g q) == 1#1) j)
      ≤ g (sortedFrom (fun p q => FloatOps.cmpfTotal (F := Ideal) (φ := .f32) .gt (g p) (g q) == 1#1) i) := by
  have hb : ∀ p q : Fin 4, (FloatOps.cmpfTotal (F := Ideal) (φ := .f32) .gt (g p) (g q) == 1#1) = decide (g q < g p) := fun p q => by
    show (BitVec.ofBool (decide (g q < g p)) == 1#1) = _
    cases decide (g q < g p) <;> rfl
  simp only [hb]
  have h := sortedFrom_noInversion (fun p q => decide (g q < g p)) (fun p q => decide (g q < g p))
    (fun a b hab => decide_eq_false (not_lt.mpr (le_of_lt (of_decide_eq_true hab)))) (fun _ _ hab => hab)
    (fun a b c hab hbc => decide_eq_false (not_lt.mpr ((not_lt.mp (of_decide_eq_false hab)).trans (not_lt.mp (of_decide_eq_false hbc))))) i j hij
  exact not_lt.mp (of_decide_eq_false h)

/-- The host's largest of a row of four, and its second largest. -/
theorem topK_top (g : (⟨2, ![512, 4]⟩ : Shape).Idx → EReal) (h : (⟨2, ![512, 4]⟩ : Shape).Slices (fun _ => 0) ⟨2, ![512, 2]⟩) (r : Fin 512) :
    (Host.topK (α := Ideal .f32) ⟨2, ![512, 2]⟩ 1 (FloatOps.cmpfTotal .gt) g h).1 (ix2 r 0)
      = top (g (ix2 r 0)) (g (ix2 r 1)) (g (ix2 r 2)) (g (ix2 r 3)) :=
  (topK_apply g h r 0).trans (top_of_sorted (fun e => g (ix2 r e)) _ (sortedFrom_injective _) (sorted_le fun e => g (ix2 r e)))

theorem topK_second (g : (⟨2, ![512, 4]⟩ : Shape).Idx → EReal) (h : (⟨2, ![512, 4]⟩ : Shape).Slices (fun _ => 0) ⟨2, ![512, 2]⟩) (r : Fin 512) :
    (Host.topK (α := Ideal .f32) ⟨2, ![512, 2]⟩ 1 (FloatOps.cmpfTotal .gt) g h).1 (ix2 r 1)
      = second (g (ix2 r 0)) (g (ix2 r 1)) (g (ix2 r 2)) (g (ix2 r 3)) :=
  (topK_apply g h r 1).trans (second_of_sorted (fun e => g (ix2 r e)) _ (sortedFrom_injective _) (sorted_le fun e => g (ix2 r e)))

end Cert.Moe

end
-- ==== Proof.Protocol.lean ====
/-
  The two-device exchange of the mixture-of-experts kernel, as a protocol.

  The mesh is 2 × 2 × 2 and a device talks to exactly one other: its `peer`, the device with the other first
  coordinate. Each device has eleven semaphores that matter — the barrier, a departure and an arrival semaphore for
  each of its four remote copies, and one semaphore for each of its two local copies — and each of them is used for
  one round with one contribution. So the protocol is a table indexed by `Fin 11`: which semaphore (`csem`), how many
  units (`amt`), what the contribution hands to the waiter (`pay`), and at which level the wait stands (`klev`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's own copy of the rounds algebra: one duty per round, so the duty names are `Unit`. -/
abbrev UB : Type := URounds (GSem nD τ sig) Unit
/-- The certificate's user algebra: the pipeline's copy beside the exchange's. -/
abbrev UU : Type := UR sig nD τ × UB

local notation "𝕄" => MT nD τ sig Unit (Elt F) ℕ UU ℕ

/-- Where the pipeline's copy sits. -/
abbrev EP : Emb (UR sig nD τ) (MT nD τ sig Unit (Elt F) ℕ UU ℕ) := embL
/-- Where the exchange's copy sits. -/
abbrev ER : Emb UB (MT nD τ sig Unit (Elt F) ℕ UU ℕ) := embR

variable (m : (ℓ : Loc nD τ sig) → Buf (Elt F) ℓ) (ρ : Dev nD → PrngReg)

/-! ## The peer -/

/-- The device with the other first mesh coordinate and the same second and third: four further round the eight. -/
def peer (c : Dev nD) : Dev nD := ⟨(c.val + 4) % 8, Nat.mod_lt _ (by decide)⟩

theorem peer_peer (c : Dev nD) : peer (peer c) = c := by revert c; decide
theorem peer_ne (c : Dev nD) : peer c ≠ c := by revert c; decide

/-- Every device the kernel addresses is its peer. -/
theorem dev_peer {c : Dev nD} {v : ℕ} (hv : v < nD) (h : v = (2 * ((c.val / 2) % 2) + c.val % 2 + 4) - 4 * (c.val / 4)) :
    (⟨v, hv⟩ : Dev nD) = peer c := by
  subst h; apply Fin.ext; revert hv; revert c; decide

theorem dev1_peer (c : Dev nD) : (⟨k0_dev1 c, k0_dev1_lt c⟩ : Dev nD) = peer c := dev_peer _ (k0_dev1_eq c)
theorem dev2_peer (c : Dev nD) : (⟨k0_dev2 c, k0_dev2_lt c⟩ : Dev nD) = peer c := dev_peer _ (k0_dev2_eq c)
theorem dev3_peer (c : Dev nD) : (⟨k0_dev3 c, k0_dev3_lt c⟩ : Dev nD) = peer c := dev_peer _ (k0_dev3_eq c)
theorem dev4_peer (c : Dev nD) : (⟨k0_dev4 c, k0_dev4_lt c⟩ : Dev nD) = peer c := dev_peer _ (k0_dev4_eq c)
theorem dev5_peer (c : Dev nD) : (⟨k0_dev5 c, k0_dev5_lt c⟩ : Dev nD) = peer c := dev_peer _ (k0_dev5_eq c)

/-- Taking the peer, as a permutation of the devices. -/
def swap : Dev nD ≃ Dev nD := ⟨peer, peer, peer_peer, peer_peer⟩

/-! ## The semaphores -/

/-- The barrier semaphore of the kernel's collective. -/
abbrev barS : Sem sig := (SemArray.scalar (sig.barrier 0 rfl) : Sems sig S_).sem
/-- Element `k` of the eight exchange semaphores, as the kernel's text takes it. -/
abbrev xS (k : ℕ) (h : ∀ a, (![k] : Fin 1 → Nat) a + S1.size a ≤ S8.size a) : DmaSem sig :=
  ((cc0_scratch9.slice (Rect.unit (s := S8) ![k] S1.size h)).squeeze S_ squeezes_S1_S_).sem
/-- Element `k` of the two local-copy semaphores. -/
abbrev lS (k : ℕ) (h : ∀ a, (![k] : Fin 1 → Nat) a + S1.size a ≤ S2.size a) : DmaSem sig :=
  ((cc0_scratch10.slice (Rect.unit (s := S2) ![k] S1.size h)).squeeze S_ squeezes_S1_S_).sem

/-- The eleven semaphores: the barrier; departure and arrival of the activations (1, 2), of the router columns (3, 4),
    of the gate weights (5, 6) and of the partial sums (7, 8); the two local copies (9, 10). -/
abbrev csem : Fin 11 → SemLoc sig := fun
  | 0 => .reg barS
  | 1 => .dma (xS 0 inb_S8_S1_0) | 2 => .dma (xS 1 inb_S8_S1_1)
  | 3 => .dma (xS 2 inb_S8_S1_2) | 4 => .dma (xS 3 inb_S8_S1_3)
  | 5 => .dma (xS 4 inb_S8_S1_4) | 6 => .dma (xS 5 inb_S8_S1_5)
  | 7 => .dma (xS 6 inb_S8_S1_6) | 8 => .dma (xS 7 inb_S8_S1_7)
  | 9 => .dma (lS 0 inb_S2_S1_0) | 10 => .dma (lS 1 inb_S2_S1_1)

/-- Device `c`'s semaphore number `k`. -/
abbrev kcell (ck : Dev nD × Fin 11) : GSem nD τ sig := ((ck.1 : Thread nD τ), csem ck.2)

/-- Which of the eleven a semaphore is, if any. -/
def kindOf (sm : SemLoc sig) : Option (Fin 11) := (List.finRange 11).find? fun k => csem k = sm

theorem kindOf_csem (k : Fin 11) : kindOf (csem k) = some k := by revert k; decide
theorem csem_injective : Function.Injective csem := fun a b h => by
  have := congrArg kindOf h; rw [kindOf_csem, kindOf_csem] at this; exact Option.some.inj this
theorem kcell_injective : Function.Injective kcell := fun a b h => by
  obtain ⟨c, k⟩ := a; obtain ⟨c', k'⟩ := b
  have h1 : c = c' := congrArg (fun g : GSem nD τ sig => g.1.1) h
  have h2 : k = k' := csem_injective (congrArg Prod.snd h)
  rw [h1, h2]

/-- How many units semaphore `k` receives: one at the barrier, the landing buffer's credit elsewhere. -/
abbrev amt : Fin 11 → ℕ := fun
  | 0 => 1
  | 1 => (Memref.whole cc0_scratch1 : Memref sig .tc .vmem S256x512 .bf16).view.dmaCredit
  | 2 => (Memref.whole cc0_scratch1 : Memref sig .tc .vmem S256x512 .bf16).view.dmaCredit
  | 3 => (Memref.whole cc0_scratch2 : Memref sig .tc .vmem S512x2 .f32).view.dmaCredit
  | 4 => (Memref.whole cc0_scratch2 : Memref sig .tc .vmem S512x2 .f32).view.dmaCredit
  | 5 => (Memref.whole cc0_scratch4 : Memref sig .tc .vmem S256x2 .f32).view.dmaCredit
  | 6 => (Memref.whole cc0_scratch4 : Memref sig .tc .vmem S256x2 .f32).view.dmaCredit
  | 7 => (Memref.whole cc0_scratch6 : Memref sig .tc .vmem S256x512 .bf16).view.dmaCredit
  | 8 => (Memref.whole cc0_scratch6 : Memref sig .tc .vmem S256x512 .bf16).view.dmaCredit
  | 9 => (Memref.whole cc0_scratch7 : Memref sig .tc .vmem S2x512x1024 .f32).view.dmaCredit
  | 10 => (Memref.whole cc0_scratch8 : Memref sig .tc .vmem S2x1024x512 .f32).view.dmaCredit

theorem amt_pos (k : Fin 11) : 0 < amt k := by
  fin_cases k <;> first | exact Nat.one_pos | exact View.dmaCredit_pos _ (by decide)

/-! ## Contents -/

/-- Device `c`'s block of `x`, as the launch stages it. -/
def xstg (c : Dev nD) : (cc0_stg0_0 : Ref sig .tc).ty.Contents (Elt F) :=
  (win0_0.blk (0 : Fin 1)).view.read (Elt F) (m ((c : Thread nD τ).loc main_arg0))
/-- Device `c`'s block of the router, as the launch stages it. -/
def rstg (c : Dev nD) : (cc0_stg1_0 : Ref sig .tc).ty.Contents (Elt F) :=
  (win0_1.blk (0 : Fin 1)).view.read (Elt F) (m ((c : Thread nD τ).loc main_arg1))
/-- Device `c`'s two experts' first and second matrices. -/
def w1At (c : Dev nD) : (main_arg2 : Ref sig .tc).ty.Contents (Elt F) := m ((c : Thread nD τ).loc main_arg2)
def w2At (c : Dev nD) : (main_arg3 : Ref sig .tc).ty.Contents (Elt F) := m ((c : Thread nD τ).loc main_arg3)

/-- The activations device `c` sends: its block of `x`, rounded. -/
def xsnd (c : Dev nD) : (cc0_scratch0 : Ref sig .tc).ty.Contents (Elt F) := k0_pay2 (xstg m c)
/-- Device `c`'s rounded activations and their gates against its own router columns. -/
def xrd (c : Dev nD) : FVec F S256x512 .f32 := k0_pay3 (xstg m c)
def gown (c : Dev nD) : FVec F S256x2 .f32 := k0_pay4 (xstg m c) (rstg m c)
/-- The weights of its own two experts, a column each; and of its peer's two experts, which it sends. -/
def wa (c : Dev nD) : FVec F S256x1 .f32 := k0_pay19 (xrd m c) (gown m c) (rstg m (peer c))
def wb (c : Dev nD) : FVec F S256x1 .f32 := k0_pay20 (xrd m c) (gown m c) (rstg m (peer c))
def wsnd (c : Dev nD) : (cc0_scratch3 : Ref sig .tc).ty.Contents (Elt F) := k0_pay21 (xrd m c) (gown m c) (rstg m (peer c))

/-- The two slabs of each weight array, loaded and rounded. -/
def w1a (c : Dev nD) : FVec F S512x1024 .bf16 :=
  k0_pay22 ((Memref.whole cc0_scratch7 : Memref sig .tc .vmem S2x512x1024 .f32).view.readAt (Elt F)
    (Rect.unit (s := S2x512x1024) ![0, 0, 0] S1x512x1024.size inb_S2x512x1024_S1x512x1024_0_0_0).toLoadRect (w1At m c))
def w1b (c : Dev nD) : FVec F S512x1024 .bf16 :=
  k0_pay23 ((Memref.whole cc0_scratch7 : Memref sig .tc .vmem S2x512x1024 .f32).view.readAt (Elt F)
    (Rect.unit (s := S2x512x1024) ![1, 0, 0] S1x512x1024.size inb_S2x512x1024_S1x512x1024_1_0_0).toLoadRect (w1At m c))
def w2a (c : Dev nD) : FVec F S1024x512 .bf16 :=
  k0_pay24 ((Memref.whole cc0_scratch8 : Memref sig .tc .vmem S2x1024x512 .f32).view.readAt (Elt F)
    (Rect.unit (s := S2x1024x512) ![0, 0, 0] S1x1024x512.size inb_S2x1024x512_S1x1024x512_0_0_0).toLoadRect (w2At m c))
def w2b (c : Dev nD) : FVec F S1024x512 .bf16 :=
  k0_pay25 ((Memref.whole cc0_scratch8 : Memref sig .tc .vmem S2x1024x512 .f32).view.readAt (Elt F)
    (Rect.unit (s := S2x1024x512) ![1, 0, 0] S1x1024x512.size inb_S2x1024x512_S1x1024x512_1_0_0).toLoadRect (w2At m c))

/-- The two columns of the weights that arrived at device `c`. -/
def wina (c : Dev nD) : Vec F S256x1 .f32 :=
  (Memref.whole cc0_scratch4 : Memref sig .tc .vmem S256x2 .f32).view.readAt (Elt F)
    (Rect.unit (s := S256x2) ![0, 0] S256x1.size inb_S256x2_S256x1_0_0).toLoadRect (wsnd m (peer c))
def winb (c : Dev nD) : Vec F S256x1 .f32 :=
  (Memref.whole cc0_scratch4 : Memref sig .tc .vmem S256x2 .f32).view.readAt (Elt F)
    (Rect.unit (s := S256x2) ![0, 1] S256x1.size inb_S256x2_S256x1_0_1).toLoadRect (wsnd m (peer c))

/-- The partial sum device `c` computes for its peer's activations, which it sends. -/
def psnd (c : Dev nD) : (cc0_scratch5 : Ref sig .tc).ty.Contents (Elt F) :=
  k0_pay27 (k0_pay26 (w1a m c) (w1b m c) (w2a m c) (w2b m c) (xsnd m (peer c)) (wina m c) (winb m c))
/-- The partial sum it keeps. -/
def pown (c : Dev nD) : FVec F S256x512 .f32 :=
  k0_pay28 (xrd m c) (wa m c) (wb m c) (w1a m c) (w1b m c) (w2a m c) (w2b m c)
/-- What device `c` writes out. -/
def outAt (c : Dev nD) : (cc0_stg2_0 : Ref sig .tc).ty.Contents (Elt F) := k0_pay1 (pown m c) (psnd m (peer c))

/-! ## What each contribution hands over -/

/-- Device `c`'s buffer `b`, whole, holding `f`. -/
def pts (c : Dev nD) (b : Ref sig .tc) (f : Buf (Elt F) ((c : Thread nD τ).loc b)) : sProp 𝕄 :=
  ((c : Thread nD τ).loc b) ↦{fullShare} f

instance pts_storable (c : Dev nD) (b : Ref sig .tc) (f) : BI.Storable (upEmb : UEmb _ 𝕄) (pts (F := F) c b f) := by
  unfold pts; infer_instance

/-- What the waiter on device `c`'s semaphore `k` gets: at the barrier its peer's four landing buffers; at a departure
    its source back; at an arrival its landing buffer holding what its peer sent; at a local copy both ends. -/
def pay (c : Dev nD) : Fin 11 → sProp 𝕄 := fun
  | 0 => iprop((∃ f, pts (peer c) cc0_scratch1 f) ∗ (∃ f, pts (peer c) cc0_scratch2 f) ∗ (∃ f, pts (peer c) cc0_scratch4 f) ∗ (∃ f, pts (peer c) cc0_scratch6 f))
  | 1 => pts c cc0_scratch0 (xsnd m c)
  | 2 => pts c cc0_scratch1 (xsnd m (peer c))
  | 3 => pts c cc0_stg1_0 (rstg m c)
  | 4 => pts c cc0_scratch2 (rstg m (peer c))
  | 5 => pts c cc0_scratch3 (wsnd m c)
  | 6 => pts c cc0_scratch4 (wsnd m (peer c))
  | 7 => pts c cc0_scratch5 (psnd m c)
  | 8 => pts c cc0_scratch6 (psnd m (peer c))
  | 9 => iprop(pts c cc0_scratch7 (w1At m c) ∗ pts c main_arg2 (w1At m c))
  | 10 => iprop(pts c cc0_scratch8 (w2At m c) ∗ pts c main_arg3 (w2At m c))

instance pay_storable (c : Dev nD) (k : Fin 11) : BI.Storable (upEmb : UEmb _ 𝕄) (pay (F := F) m c k) := by
  fin_cases k <;> (dsimp only [pay]; infer_instance)

/-- The schedule: each of the eleven semaphores of a device has one duty, at round 0. -/
def rd : Rounds.Schedule (GSem nD τ sig) Unit 𝕄 where
  duties g r := if r = 0 ∧ g.1.2 = .tc ∧ (kindOf g.2).isSome then {()} else ∅
  unitless _ := False
  amount g _ _ := (kindOf g.2).elim 1 amt
  payload g _ _ := (kindOf g.2).elim iprop(emp) (pay m g.1.1)
  amount_pos g _ _ _ := by
    cases h : kindOf g.2 with
    | none => exact Nat.one_pos
    | some k => exact amt_pos k

instance rd_payload_storable (g : GSem nD τ sig) (r : ℕ) (d : Unit) :
    BI.Storable (upEmb : UEmb _ 𝕄) ((rd (F := F) m).payload g r d) := by
  show BI.Storable upEmb ((kindOf g.2).elim iprop(emp) (pay m g.1.1))
  cases kindOf g.2 with
  | none => show BI.Storable upEmb iprop(emp); infer_instance
  | some k => exact pay_storable m g.1.1 k

section Sched
variable (c : Dev nD) (k : Fin 11)

theorem duties_cell : (rd (F := F) m).duties (kcell (c, k)) 0 = {()} := by
  dsimp only [rd]; rw [kindOf_csem]; exact if_pos ⟨rfl, rfl, rfl⟩
theorem mem_duties : () ∈ (rd (F := F) m).duties (kcell (c, k)) 0 := by rw [duties_cell]; exact Finset.mem_singleton_self _
theorem duties_later (g : GSem nD τ sig) : ∀ r, 1 ≤ r → (rd (F := F) m).duties g r = ∅ :=
  fun r hr => by dsimp only [rd]; rw [if_neg fun h => by omega]
theorem amount_cell : (rd (F := F) m).amount (kcell (c, k)) 0 () = amt k := by dsimp only [rd]; rw [kindOf_csem]; rfl
theorem payload_cell : (rd (F := F) m).payload (kcell (c, k)) 0 () = pay m c k := by dsimp only [rd]; rw [kindOf_csem]; rfl
theorem expect_cell : (rd (F := F) m).expect (kcell (c, k)) 0 = amt k := by
  unfold Schedule.expect Schedule.amountOf; rw [duties_cell, Finset.sum_singleton, amount_cell]
theorem rest_cell : bigSep ((rd (F := F) m).duties (kcell (c, k)) 0 \ ∅) (fun d => (rd (F := F) m).payload (kcell (c, k)) 0 d) = pay m c k := by
  rw [Finset.sdiff_empty, duties_cell, bigSep_singleton, payload_cell]

end Sched

/-! ## What each device owes, and the levels -/

/-- One contribution device `c` owes its peer's semaphore `k`. -/
abbrev debt (c : Dev nD) (k : Fin 11) : CellTallies nD τ sig Unit := tallyAt (kcell (peer c, k)) () (amt k)
/-- What device `c` owes while the contributions listed are still to come, the first of them on top. -/
def owing : List (Fin 11) → Dev nD → CellTallies nD τ sig Unit
  | [], _ => 0
  | k :: l, c => owing l c + debt c k

/-- The contributions a device makes to its peer, in program order: the barrier signal and the four arrivals. -/
abbrev dues : List (Fin 11) := [0, 2, 4, 6, 8]

theorem owing_pos {l : List (Fin 11)} {c : Dev nD} {g : GSem nD τ sig} {u : Unit} (h : 0 < owing l c g u) :
    ∃ k ∈ l, g = kcell (peer c, k) := by
  induction l with
  | nil => exact absurd h (Nat.lt_irrefl 0)
  | cons k l ih =>
    by_cases hg : g = kcell (peer c, k)
    · exact ⟨k, List.mem_cons_self .., hg⟩
    · have h' : 0 < owing l c g u := by
        unfold owing at h
        rw [Pi.add_apply, Finsupp.add_apply, tallyAt_apply, if_neg (fun h' => hg h'.1)] at h
        exact h
      obtain ⟨k', hk', he⟩ := ih h'
      exact ⟨k', List.mem_cons_of_mem _ hk', he⟩

/-- The indices in use: one on every TensorCore semaphore. -/
def L (g : GSem nD τ sig) : Finset Unit := if g.1.2 = .tc then {()} else ∅
/-- The level at which each of the eleven stands. -/
def klev : Fin 11 → ℕ := ![1, 0, 2, 0, 2, 0, 3, 0, 4, 0, 0]
/-- The level of any semaphore: that of its number, 0 for the staging ones. -/
def lv (g : GSem nD τ sig) (_ : Unit) : ℕ := (kindOf g.2).elim 0 klev

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 11) (u : Unit) : lv (kcell (c, k)) u = klev k := by unfold lv; rw [kindOf_csem]; rfl

/-- A device may wait on a semaphore below everything it still owes. -/
theorem mayWait_of (c : Dev nD) (sm : SemLoc sig) (l : List (Fin 11)) (h : ∀ k ∈ l, (kindOf sm).elim 0 klev < klev k) :
    (levAts L lv : sProp 𝕄) ⊢ MayWait (c : Thread nD τ) sm () (owing l c) :=
  MayOwe.of_cut (L := L) (lev := lv) ((kindOf sm).elim 0 klev)
    (fun p hp => by rw [Finset.mem_singleton.mp hp, L_tc]; exact Finset.mem_singleton_self _)
    (fun g u hg => by obtain ⟨k, -, rfl⟩ := owing_pos hg; rw [L_tc]; exact Finset.mem_singleton_self _)
    (fun p hp => by rw [Finset.mem_singleton.mp hp]; exact le_refl _)
    (fun g u hg => by obtain ⟨k, hk, rfl⟩ := owing_pos hg; rw [lv_cell]; exact h k hk)

theorem mayWait_cell (c : Dev nD) (k : Fin 11) (l : List (Fin 11)) (h : ∀ k' ∈ l, klev k < klev k') :
    (levAts L lv : sProp 𝕄) ⊢ MayWait (c : Thread nD τ) (csem k) () (owing l c) :=
  mayWait_of c (csem k) l (by rw [kindOf_csem]; exact h)

/-! ## The ghost state -/

/-- What every device knows, under the names `K` the launch gave the invariants: every semaphore's invariant, and that
    each has reached round 0. -/
def records (K : Dev nD × Fin 11 → ℕ) : sProp 𝕄 :=
  iprop((bigSep Finset.univ fun ck : Dev nD × Fin 11 => cellInv ER (rd m) (K ck) (kcell ck))
    ∗ bigSep Finset.univ fun ck : Dev nD × Fin 11 => reached ER (kcell ck) 0)

instance records_persistent (K : Dev nD × Fin 11 → ℕ) : BI.Persistent (records m K) := by unfold records; infer_instance

theorem inv_at (K : Dev nD × Fin 11 → ℕ) (ck : Dev nD × Fin 11) : records m K ⊢ cellInv ER (rd m) (K ck) (kcell ck) := by

  unfold records; iintro ⟨H, -⟩
  iapply (show (bigSep Finset.univ fun ck : Dev nD × Fin 11 => (cellInv ER (rd m) (K ck) (kcell ck) : sProp 𝕄)) ⊢ _ from
    bigSep_elim (Finset.mem_univ ck)) $$ H
theorem reached_at (K : Dev nD × Fin 11 → ℕ) (ck : Dev nD × Fin 11) : records m K ⊢ reached ER (kcell ck) 0 := by

  unfold records; iintro ⟨-, H⟩
  iapply (show (bigSep Finset.univ fun ck : Dev nD × Fin 11 => (reached ER (kcell ck) 0 : sProp 𝕄)) ⊢ _ from
    bigSep_elim (Finset.mem_univ ck)) $$ H

/-- Whose semaphore `k` device `c` contributes to: its peer's barrier and arrivals, its own departures and local copies. -/
def payee (k : Fin 11) : Dev nD ≃ Dev nD := if k ∈ dues then swap else Equiv.refl _

/-- Device `c`'s place in each of its own semaphores' rounds, and the right to make each of its contributions. -/
def places (c : Dev nD) : sProp 𝕄 := bigSep Finset.univ fun k : Fin 11 => atPos ER (kcell (c, k)) 0 ∅ 0
def rights (c : Dev nD) : sProp 𝕄 := bigSep Finset.univ fun k : Fin 11 => dutyTok ER (kcell (payee k c, k)) 0 ()
def ghost (K : Dev nD × Fin 11 → ℕ) (c : Dev nD) : sProp 𝕄 := iprop(records m K ∗ places c ∗ rights c)

theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

end Cert.Exchange

end
-- ==== Proof.Body.lean ====
/-
  The kernel's body on one device, run through the exchange protocol, one rule per effect in program order.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The rules at this protocol's semaphores -/

section Rules

variable (K : Dev nD × Fin 11 → ℕ) (c : Dev nD)
variable {α : Type} {Q : α → sProp (MT nD τ sig Unit (Elt F) ℕ UU ℕ)} {k : PUnit → Prog (TpuEff nD τ sig (Elt F) Λ₀ .tc) α}

/-- What device `c` owes, whatever waits it has recorded. -/
def owe (l : List (Fin 11)) : sProp 𝕄 := iprop(∃ W, owes (c : Thread nD τ) (owing l c) W)

/-- A WAIT on semaphore `i`, below everything still owed: the contribution comes with it, and the semaphore, used for
    the last time, reads zero and is the device's again. -/
theorem wait_cell (i : Fin 11) {w : TpuEff nD τ sig (Elt F) Λ₀ .tc PUnit} {sm : SemLoc sig} {u : ℕ}
    (hsm : sm = csem i) (hu : u = amt i)
    (hw : ∀ K' : PUnit → sProp 𝕄, wpE (defs₀ (F := F)) 𝒱₀ (c : Thread nD τ) none Set.univ w K' = waitSpec (c : Thread nD τ) Set.univ sm u K')
    (l : List (Fin 11)) (hl : ∀ j ∈ l, klev i < klev j) :
    iprop(records m K ∗ levAts L lv ∗ cred (tallyAt (kcell (c, i)) () (amt i)) ∗ owe c l ∗ atPos ER (kcell (c, i)) 0 ∅ 0)
      ⊢ iprop(((owe c l ∗ semVal (kcell (c, i)) 0 ∗ pay m c i) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hsm; subst hu
  unfold owe
  iintro ⟨#HR, #Hlev, Hc, ⟨%W, HO⟩, Hat⟩ Hk
  iapply (Rounds.wp_wait_rest_token 𝒱₀ ER (rd m) (c : Thread nD τ) none (κ := K (c, i)) hw (Set.mem_univ _) ()
      (O := owing l c) (W := W) (R := 0) (m := 0) (T := ∅) (by rw [Nat.zero_add]; exact (expect_cell m c i).symm)) $$ [Hc HO Hat]
  · isplitr; · iapply (inv_at m K (c, i)); iexact HR
    isplitl [Hc]; · iexact Hc
    isplitl [HO]; · iexact HO
    isplitr; · iapply (mayWait_cell (F := F) c i l hl); iexact Hlev
    iexact Hat
  iintro ⟨HO, Hat, -, Hpay⟩
  ihave Hp := (Entails.of_eq (rest_cell m c i)) $$ Hpay
  imod (Rounds.cell_close ER (rd m) (Set.mem_univ (K (c, i))) (fun h => h) (R := 0 + 1) (duties_later m (kcell (c, i)))) $$ [Hat] with Hz
  · isplitr; · iapply (inv_at m K (c, i)); iexact HR
    iexact Hat
  iapply Hk
  isplitl [HO]; · iexists _; iexact HO
  isplitl [Hz]; · iexact Hz
  iexact Hp

/-- The barrier SIGNAL to the peer, handing over this device's four landing buffers. -/
theorem signal_cell {n : Dev nD} (hn : n = peer c) {u : ℕ} (hu : u = 1) (l : List (Fin 11)) :
    iprop(records m K ∗ owe c (0 :: l) ∗ dutyTok ER (kcell (peer c, 0)) 0 ()
        ∗ (∃ f, pts c cc0_scratch1 f) ∗ (∃ f, pts c cc0_scratch2 f) ∗ (∃ f, pts c cc0_scratch4 f) ∗ (∃ f, pts c cc0_scratch6 f))
      ⊢ iprop((owe c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS u) k) Q) := by
  subst hn; subst hu
  unfold owe
  iintro ⟨#HR, ⟨%W, HO⟩, Ht, Hl⟩ Hk
  iapply (Rounds.wp_signal 𝒱₀ ER (rd m) (c : Thread nD τ) none (dst := (peer c : Thread nD τ)) (κ := K (peer c, 0))
      (d := ()) (mem_duties m (peer c) 0) (amount_cell m (peer c) 0) () (owing l c) (W := W) rfl) $$ [HO Ht Hl]
  · isplitr; · iapply (inv_at m K (peer c, 0)); iexact HR
    isplitl [HO]; · iexact HO
    isplitl [Ht]; · iexact Ht
    isplitl [Hl]
    · iapply (Entails.of_eq (payload_cell m (peer c) 0).symm)
      unfold pay
      rw [peer_peer]
      iexact Hl
    · iapply (reached_at m K (peer c, 0)); iexact HR
  iintro HO
  iapply Hk
  iexists W; iexact HO

/-- A remote COPY to the peer, from a whole buffer into a whole buffer of it: departure on this device's semaphore `i`,
    arrival on its peer's `j`. -/
theorem send_cell {n : Dev nD} (hn : n = peer c) {s : Shape} {e : EltTy} {src dst : Memref sig .tc .vmem s e} (i j : Fin 11) {sS sV : SemLoc sig}
    {hsc : (dst : Memref sig (Dev.tc n : Thread nD τ).2.kind .vmem s e).view.ref.isScScratch = false}
    {hsrc : src.view.WordExact} {hdst : dst.view.WordExact}
    {hsem : DmaTarget.Typed .vmem sV (.remote (Dev.tc n : Thread nD τ) (dst : Memref sig .tc .vmem s e) sS hsc)}
    (hi : sS = csem i) (hj : sV = csem j) (hN : dst.view.amount sV = amt j) (hij : amt i = amt j)
    (hws : src.view.set = Finset.univ) (hwd : dst.view.set = Finset.univ)
    (fs : Buf (Elt F) (src.view.loc (c : Thread nD τ))) (fd : Buf (Elt F) (dst.view.loc (peer c : Thread nD τ)))
    (hpi : (src.view.loc (c : Thread nD τ) ↦{fullShare} fs : sProp 𝕄) ⊢ pay m c i)
    (hpj : (dst.view.loc (peer c : Thread nD τ) ↦{fullShare} (dst.view.write (Elt F) fd (src.view.read (Elt F) fs) Finset.univ) : sProp 𝕄) ⊢ pay m (peer c) j)
    (l : List (Fin 11)) :
    iprop(records m K ∗ (src.view.loc (c : Thread nD τ) ↦{fullShare} fs) ∗ (dst.view.loc (peer c : Thread nD τ) ↦{fullShare} fd)
        ∗ owe c (j :: l) ∗ dutyTok ER (kcell (c, i)) 0 () ∗ dutyTok ER (kcell (peer c, j)) 0 ())
      ⊢ iprop(((cred (tallyAt (kcell (c, i)) () (amt i)) ∗ owe c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sV hsrc hdst hsem) k) Q) := by
  subst hn; subst hi; subst hj
  unfold owe
  iintro ⟨#HR, Hs, Hd, ⟨%W, HO⟩, Hti, Htj⟩ Hk
  iapply (Rounds.wp_send_pointsTo 𝒱₀ ER (rd m) (c : Thread nD τ) none (κ₁ := K (c, i)) (κ₂ := K (peer c, j))
    (r₁ := 0) (r₂ := 0) (d₁ := ()) (d₂ := ()) (q := fullShare) (fs := fs) (fd := fd) (mem_duties m c i) (mem_duties m (peer c) j)
    () () (amt j) hN ((amount_cell m c i).trans hij) (amount_cell m (peer c) j) (owing l c) rfl (W := W)
    (by rw [hws]; exact hpi.trans (Entails.of_eq (payload_cell m c i).symm))
    (by rw [hwd]; exact hpj.trans (Entails.of_eq (payload_cell m (peer c) j).symm))) $$ [Hs Hd HO Hti Htj]
  · isplitr; · iapply (inv_at m K (c, i)); iexact HR
    isplitr; · iapply (inv_at m K (peer c, j)); iexact HR
    isplitl [Hs]; · rw [hws]; iexact Hs
    isplitl [Hd]; · rw [hwd]; iexact Hd
    isplitl [HO]; · iexact HO
    isplitl [Hti]; · iexact Hti
    isplitr; · iapply (reached_at m K (c, i)); iexact HR
    isplitl [Htj]; · iexact Htj
    iapply (reached_at m K (peer c, j)); iexact HR
  iintro ⟨Hc, HO⟩
  iapply Hk
  rw [hij]
  isplitl [Hc]; · iexact Hc
  iexists W; iexact HO

/-- A local COPY of a whole array into a whole buffer, on this device's semaphore `i`. -/
theorem copy_cell {s : Shape} {e : EltTy} {src : Memref sig .tc .hbm s e} {dst : Memref sig .tc .vmem s e} (i : Fin 11) {sm : SemLoc sig}
    {hsrc : src.view.WordExact} {hdst : dst.view.WordExact} {hsem : DmaTarget.Typed (nD := nD) (τ := τ) (p := .tc) .hbm sm (.here dst)}
    (hi : sm = csem i) (hN : dst.view.amount sm = amt i)
    (hws : src.view.set = Finset.univ) (hwd : dst.view.set = Finset.univ)
    (fs : Buf (Elt F) (src.view.loc (c : Thread nD τ))) (fd : Buf (Elt F) (dst.view.loc (c : Thread nD τ)))
    (hp : iprop((dst.view.loc (c : Thread nD τ) ↦{fullShare} (dst.view.write (Elt F) fd (src.view.read (Elt F) fs) Finset.univ))
      ∗ (src.view.loc (c : Thread nD τ) ↦{fullShare} fs)) ⊢ pay m c i) :
    iprop(records m K ∗ (src.view.loc (c : Thread nD τ) ↦{fullShare} fs) ∗ (dst.view.loc (c : Thread nD τ) ↦{fullShare} fd)
        ∗ dutyTok ER (kcell (c, i)) 0 ())
      ⊢ iprop((cred (tallyAt (kcell (c, i)) () (amt i)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) sm hsrc hdst hsem) k) Q) := by
  subst hi
  iintro ⟨#HR, Hs, Hd, Ht⟩ Hk
  iapply (Rounds.wp_copy_pointsTo 𝒱₀ ER (rd m) (c : Thread nD τ) none (κ := K (c, i)) (r := 0) (d := ()) (q := fullShare) (fs := fs) (fd := fd)
    (mem_duties m c i) () (amt i) hN (amount_cell m c i)
    (by rw [hws, hwd]; exact hp.trans (Entails.of_eq (payload_cell m c i).symm))) $$ [Hs Hd Ht]
  · isplitr; · iapply (inv_at m K (c, i)); iexact HR
    isplitl [Hs]; · rw [hws]; iexact Hs
    isplitl [Hd]; · rw [hwd]; iexact Hd
    isplitl [Ht]; · iexact Ht
    iapply (reached_at m K (c, i)); iexact HR
  iintro Hc
  iapply Hk; iexact Hc

end Rules

/-! ## The proof data of the one grid point -/

/-- What a device's body starts from, besides its buffers: the protocol's ghost state, the credits for the five
    contributions its peer will make, the level facts, and its two weight arrays in HBM. -/
def start (c : Dev nD) : sProp 𝕄 :=
  iprop((∃ K, ghost m K c)
    ∗ (cred (tallyAt (kcell (c, 0)) () (amt 0)) ∗ cred (tallyAt (kcell (c, 2)) () (amt 2)) ∗ cred (tallyAt (kcell (c, 4)) () (amt 4))
      ∗ cred (tallyAt (kcell (c, 6)) () (amt 6)) ∗ cred (tallyAt (kcell (c, 8)) () (amt 8)))
    ∗ levAts L lv ∗ pts c main_arg2 (w1At m c) ∗ pts c main_arg3 (w2At m c))

/-- The nine scratch buffers at some contents. -/
def scratch (c : Dev nD) : sProp 𝕄 :=
  iprop((∃ f, pts c cc0_scratch0 f) ∗ (∃ f, pts c cc0_scratch1 f) ∗ (∃ f, pts c cc0_scratch2 f) ∗ (∃ f, pts c cc0_scratch3 f)
    ∗ (∃ f, pts c cc0_scratch4 f) ∗ (∃ f, pts c cc0_scratch5 f) ∗ (∃ f, pts c cc0_scratch6 f) ∗ (∃ f, pts c cc0_scratch7 f)
    ∗ (∃ f, pts c cc0_scratch8 f))

def Φ₀ (c : Dev nD) : sProp 𝕄 := iprop(start m c ∗ scratch c)
/-- After the point: the weight arrays as they were, every semaphore back at zero, the scratch buffers at some contents. -/
def Φ₁ (c : Dev nD) : sProp 𝕄 :=
  iprop((pts c main_arg2 (w1At m c) ∗ pts c main_arg3 (w2At m c)) ∗ (bigSep Finset.univ fun k : Fin 11 => semVal (kcell (c, k)) 0) ∗ scratch c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => rstg m c
    | ⟨2, _⟩ => outAt m c
  Φ t := match t with
    | ⟨0, _⟩ => Φ₀ m c
    | ⟨_ + 1, _⟩ => Φ₁ m c
  q _ := fullShare
  owed t := match t with
    | ⟨0, _⟩ => owing dues c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 11 → ℕ)

theorem hz2 : (![0, 0] : Fin 2 → Nat) = fun _ => 0 := funext fun a => by fin_cases a <;> rfl

/-! A load of a whole buffer reads its contents, and a store into a whole buffer replaces them. -/

theorem read_stg0_0 (f : (cc0_stg0_0 : Ref sig .tc).ty.Contents (Elt F)) : (Memref.whole cc0_stg0_0 : Memref sig .tc .vmem S256x512 .f32).view.readAt (Elt F)
    (Rect.unit (s := S256x512) ![0, 0] S256x512.size inb_S256x512_S256x512_0_0).toLoadRect f = f := Memref.readAt_unit_zero (Elt F) cc0_stg0_0 hz2 _ f
theorem read_stg1_0 (f : (cc0_stg1_0 : Ref sig .tc).ty.Contents (Elt F)) : (Memref.whole cc0_stg1_0 : Memref sig .tc .vmem S512x2 .f32).view.readAt (Elt F)
    (Rect.unit (s := S512x2) ![0, 0] S512x2.size inb_S512x2_S512x2_0_0).toLoadRect f = f := Memref.readAt_unit_zero (Elt F) cc0_stg1_0 hz2 _ f
theorem read_s1 (f : (cc0_scratch1 : Ref sig .tc).ty.Contents (Elt F)) : (Memref.whole cc0_scratch1 : Memref sig .tc .vmem S256x512 .bf16).view.readAt (Elt F)
    (Rect.unit (s := S256x512) ![0, 0] S256x512.size inb_S256x512_S256x512_0_0).toLoadRect f = f := Memref.readAt_unit_zero (Elt F) cc0_scratch1 hz2 _ f
theorem read_s2 (f : (cc0_scratch2 : Ref sig .tc).ty.Contents (Elt F)) : (Memref.whole cc0_scratch2 : Memref sig .tc .vmem S512x2 .f32).view.readAt (Elt F)
    (Rect.unit (s := S512x2) ![0, 0] S512x2.size inb_S512x2_S512x2_0_0).toLoadRect f = f := Memref.readAt_unit_zero (Elt F) cc0_scratch2 hz2 _ f
theorem read_s6 (f : (cc0_scratch6 : Ref sig .tc).ty.Contents (Elt F)) : (Memref.whole cc0_scratch6 : Memref sig .tc .vmem S256x512 .bf16).view.readAt (Elt F)
    (Rect.unit (s := S256x512) ![0, 0] S256x512.size inb_S256x512_S256x512_0_0).toLoadRect f = f := Memref.readAt_unit_zero (Elt F) cc0_scratch6 hz2 _ f
theorem write_s0 (f w : (cc0_scratch0 : Ref sig .tc).ty.Contents (Elt F)) : ((Memref.whole cc0_scratch0 : Memref sig .tc .vmem S256x512 .bf16).access
    (Rect.unit (s := S256x512) ![0, 0] S256x512.size inb_S256x512_S256x512_0_0) : View sig .tc _ _ _).write (Elt F) f w Finset.univ = w :=
  Memref.write_access_unit_zero_univ (Elt F) cc0_scratch0 hz2 _ f w
theorem write_s3 (f w : (cc0_scratch3 : Ref sig .tc).ty.Contents (Elt F)) : ((Memref.whole cc0_scratch3 : Memref sig .tc .vmem S256x2 .f32).access
    (Rect.unit (s := S256x2) ![0, 0] S256x2.size inb_S256x2_S256x2_0_0) : View sig .tc _ _ _).write (Elt F) f w Finset.univ = w :=
  Memref.write_access_unit_zero_univ (Elt F) cc0_scratch3 hz2 _ f w
theorem write_s5 (f w : (cc0_scratch5 : Ref sig .tc).ty.Contents (Elt F)) : ((Memref.whole cc0_scratch5 : Memref sig .tc .vmem S256x512 .bf16).access
    (Rect.unit (s := S256x512) ![0, 0] S256x512.size inb_S256x512_S256x512_0_0) : View sig .tc _ _ _).write (Elt F) f w Finset.univ = w :=
  Memref.write_access_unit_zero_univ (Elt F) cc0_scratch5 hz2 _ f w
theorem write_stg2_0 (f w : (cc0_stg2_0 : Ref sig .tc).ty.Contents (Elt F)) : ((Memref.whole cc0_stg2_0 : Memref sig .tc .vmem S256x512 .f32).access
    (Rect.unit (s := S256x512) ![0, 0] S256x512.size inb_S256x512_S256x512_0_0) : View sig .tc _ _ _).write (Elt F) f w Finset.univ = w :=
  Memref.write_access_unit_zero_univ (Elt F) cc0_stg2_0 hz2 _ f w

/-- What the destination named by each wait credits is what its semaphore expects. -/
theorem credit_1 : (Memref.whole cc0_scratch0 : Memref sig .tc .vmem S256x512 .bf16).view.dmaCredit = amt 1 := rfl
theorem credit_2 : (Memref.whole cc0_scratch1 : Memref sig .tc .vmem S256x512 .bf16).view.dmaCredit = amt 2 := rfl
theorem credit_3 : (Memref.whole cc0_stg1_0 : Memref sig .tc .vmem S512x2 .f32).view.dmaCredit = amt 3 := rfl
theorem credit_4 : (Memref.whole cc0_scratch2 : Memref sig .tc .vmem S512x2 .f32).view.dmaCredit = amt 4 := rfl
theorem credit_5 : (Memref.whole cc0_scratch3 : Memref sig .tc .vmem S256x2 .f32).view.dmaCredit = amt 5 := rfl
theorem credit_6 : (Memref.whole cc0_scratch4 : Memref sig .tc .vmem S256x2 .f32).view.dmaCredit = amt 6 := rfl
theorem credit_7 : (Memref.whole cc0_scratch5 : Memref sig .tc .vmem S256x512 .bf16).view.dmaCredit = amt 7 := rfl
theorem credit_8 : (Memref.whole cc0_scratch6 : Memref sig .tc .vmem S256x512 .bf16).view.dmaCredit = amt 8 := rfl
theorem credit_9 : (Memref.whole cc0_scratch7 : Memref sig .tc .vmem S2x512x1024 .f32).view.dmaCredit = amt 9 := rfl
theorem credit_10 : (Memref.whole cc0_scratch8 : Memref sig .tc .vmem S2x1024x512 .f32).view.dmaCredit = amt 10 := rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c
    ∗ (cred (tallyAt (kcell (c, 0)) () (amt 0)) ∗ cred (tallyAt (kcell (c, 2)) () (amt 2)) ∗ cred (tallyAt (kcell (c, 4)) () (amt 4))
      ∗ cred (tallyAt (kcell (c, 6)) () (amt 6)) ∗ cred (tallyAt (kcell (c, 8)) () (amt 8)))
    ∗ levAts L lv ∗ pts c main_arg2 (w1At m c) ∗ pts c main_arg3 (w2At m c)) ∗ scratch c
    ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ m c ∗ (dats m 0 c).owesAt () t0_0.succ ∗ stg c cc0_stg0_0 (xstg m c) ∗ stg c cc0_stg1_0 (rstg m c) ∗ stg c cc0_stg2_0 (outAt m c))

set_option maxHeartbeats 4000000 in
set_option maxRecDepth 65536 in
/-- The body, run from `bodyPre` to `bodyPost`: one rule per effect, in program order. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole main_arg2) (Memref.isWhole_whole _) (Memref.whole main_arg3) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) (Memref.whole cc0_scratch6) (Memref.isWhole_whole _)
            (Memref.whole cc0_scratch7) (Memref.isWhole_whole _) (Memref.whole cc0_scratch8) (Memref.isWhole_whole _)
            cc0_scratch9 cc0_scratch10) Kt := by
  simp only [cc0_body_eq_skeleton]; unfold cc0_body_skel
  simp only [k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel,
    semSignalWord, semWaitWord, Prog.lift, Prog.bind_op, Prog.bind_ret, Prog.pure_eq_ret, wp_deviceId]
  unfold bodyPre ghost places rights scratch
  rw [bigSep_fin11, bigSep_fin11]
  iintro ⟨⟨⟨⟨#HR, ⟨Hp0, Hp1, Hp2, Hp3, Hp4, Hp5, Hp6, Hp7, Hp8, Hp9, Hp10⟩, Ht0, Ht1, Ht2, Ht3, Ht4, Ht5, Ht6, Ht7, Ht8, Ht9, Ht10⟩,
      ⟨Hc0, Hc2, Hc4, Hc6, Hc8⟩, #Hlev, Ha2, Ha3⟩, ⟨⟨%s0, Hs0⟩, Hs1, Hs2, ⟨%s3, Hs3⟩, Hs4, ⟨%s5, Hs5⟩, Hs6, ⟨%s7, Hs7⟩, ⟨%s8, Hs8⟩⟩,
      Ho, ⟨%d0, %g0, %hg0, Hx⟩, ⟨%d1, %g1, %hg1, Hr⟩, ⟨%d2, %g2, %hg2, Hout⟩⟩, Hk⟩
  have hx : g0 = xstg m c := by rw [hg0]; unfold Dat.before; rw [if_pos (fetch0_0 t0_0)]; rfl
  have hr : g1 = rstg m c := by rw [hg1]; unfold Dat.before; rw [if_pos (fetch0_1 t0_0)]; rfl
  subst hx; subst hr
  unfold Dat.owesAt Pipeline.owesWithin
  icases Ho with ⟨%W, %hW, HO⟩
  rw [show (dats m 0 c).owed t0_0.castSucc = owing dues c from rfl]
  ihave HO := (show (owes (c : Thread nD τ) (owing dues c) W : sProp 𝕄) ⊢ owe c dues from by unfold owe; iintro H; iexists W; iexact H) $$ HO
  unfold pts
  -- the local copy of main_arg2 into cc0_scratch7
  iapply (copy_cell m K c 9 (src := (Memref.whole main_arg2 : Memref sig .tc .hbm S2x512x1024 .f32)) (dst := (Memref.whole cc0_scratch7 : Memref sig .tc .vmem S2x512x1024 .f32))
    rfl rfl (View.set_whole _) (View.set_whole _) (w1At m c) (s7)
    (by unfold pay pts; rw [show ((Memref.whole cc0_scratch7 : Memref sig .tc .vmem S2x512x1024 .f32)).view.write (Elt F) s7 (((Memref.whole main_arg2 : Memref sig .tc .hbm S2x512x1024 .f32)).view.read (Elt F) (w1At m c)) Finset.univ = w1At m c from View.write_whole_univ _ _ _])) $$ [Ha2 Hs7 Ht9]
  · isplitr; · iexact HR
    isplitl [Ha2]; · iexact Ha2
    isplitl [Hs7]; · iexact Hs7
    iexact Ht9
  iintro Hc9
  -- the local copy of main_arg3 into cc0_scratch8
  iapply (copy_cell m K c 10 (src := (Memref.whole main_arg3 : Memref sig .tc .hbm S2x1024x512 .f32)) (dst := (Memref.whole cc0_scratch8 : Memref sig .tc .vmem S2x1024x512 .f32))
    rfl rfl (View.set_whole _) (View.set_whole _) (w2At m c) (s8)
    (by unfold pay pts; rw [show ((Memref.whole cc0_scratch8 : Memref sig .tc .vmem S2x1024x512 .f32)).view.write (Elt F) s8 (((Memref.whole main_arg3 : Memref sig .tc .hbm S2x1024x512 .f32)).view.read (Elt F) (w2At m c)) Finset.univ = w2At m c from View.write_whole_univ _ _ _])) $$ [Ha3 Hs8 Ht10]
  · isplitr; · iexact HR
    isplitl [Ha3]; · iexact Ha3
    isplitl [Hs8]; · iexact Hs8
    iexact Ht10
  iintro Hc10
  -- the barrier
  iapply (signal_cell m K c (dev1_peer c) rfl [2, 4, 6, 8]) $$ [HO Ht0 Hs1 Hs2 Hs4 Hs6]
  · isplitr; · iexact HR
    isplitl [HO]; · iexact HO
    isplitl [Ht0]; · iexact Ht0
    isplitl [Hs1]; · iexact Hs1
    isplitl [Hs2]; · iexact Hs2
    isplitl [Hs4]; · iexact Hs4
    iexact Hs6
  iintro HO
  -- the wait on semaphore 0
  iapply (wait_cell m K c 0 rfl rfl (wpE_semWait_eq 𝒱₀ (c : Thread nD τ) none Set.univ) [2, 4, 6, 8] (by decide)) $$ [Hc0 HO Hp0]
  · isplitr; · iexact HR
    isplitr; · iexact Hlev
    isplitl [Hc0]; · iexact Hc0
    isplitl [HO]; · iexact HO
    iexact Hp0
  iintro ⟨HO, Hz0, Hpay⟩
  unfold pay
  icases Hpay with ⟨⟨%p1, Hq1⟩, ⟨%p2, Hq2⟩, ⟨%p4, Hq4⟩, ⟨%p6, Hq6⟩⟩
  unfold pts
  iapply (wp_load 𝒱₀ (c : Thread nD τ) none Set.univ (m := (Memref.whole cc0_stg0_0 : Memref sig .tc .vmem S256x512 .f32)) (Finset.subset_univ _)) $$ Hx; iintro Hx
  rw [read_stg0_0]
  iapply (wp_load 𝒱₀ (c : Thread nD τ) none Set.univ (m := (Memref.whole cc0_scratch0 : Memref sig .tc .vmem S256x512 .bf16)) (Finset.subset_univ _)) $$ Hs0; iintro Hs0
  iapply (wp_store 𝒱₀ (c : Thread nD τ) none Set.univ (m := (Memref.whole cc0_scratch0 : Memref sig .tc .vmem S256x512 .bf16)) (r := Rect.unit (s := S256x512) ![0, 0] S256x512.size inb_S256x512_S256x512_0_0) (Mk := Finset.univ) (Finset.subset_univ _)) $$ Hs0; iintro Hs0
  rw [write_s0]
  -- the remote copy of cc0_scratch0 into the peer's cc0_scratch1
  iapply (send_cell m K c (dev2_peer c) (src := (Memref.whole cc0_scratch0 : Memref sig .tc .vmem S256x512 .bf16)) (dst := (Memref.whole cc0_scratch1 : Memref sig .tc .vmem S256x512 .bf16)) 1 2
    rfl rfl rfl rfl (View.set_whole _) (View.set_whole _) (xsnd m c) p1 (by unfold pay pts; exact BI.Entails.refl _)
    (by unfold pay pts; rw [peer_peer]; exact Entails.of_eq (congrArg _ (View.write_whole_univ _ _ _))) [4, 6, 8]) $$ [Hs0 Hq1 HO Ht1 Ht2]
  · isplitr; · iexact HR
    isplitl [Hs0]; · iexact Hs0
    isplitl [Hq1]; · iexact Hq1
    isplitl [HO]; · iexact HO
    isplitl [Ht1]; · iexact Ht1
    iexact Ht2
  iintro ⟨Hc1, HO⟩
  -- the remote copy of cc0_stg1_0 into the peer's cc0_scratch2
  iapply (send_cell m K c (dev3_peer c) (src := (Memref.whole cc0_stg1_0 : Memref sig .tc .vmem S512x2 .f32)) (dst := (Memref.whole cc0_scratch2 : Memref sig .tc .vmem S512x2 .f32)) 3 4
    rfl rfl rfl rfl (View.set_whole _) (View.set_whole _) (rstg m c) p2 (by unfold pay pts; exact BI.Entails.refl _)
    (by unfold pay pts; rw [peer_peer]; exact Entails.of_eq (congrArg _ (View.write_whole_univ _ _ _))) [6, 8]) $$ [Hr Hq2 HO Ht3 Ht4]
  · isplitr; · iexact HR
    isplitl [Hr]; · iexact Hr
    isplitl [Hq2]; · iexact Hq2
    isplitl [HO]; · iexact HO
    isplitl [Ht3]; · iexact Ht3
    iexact Ht4
  iintro ⟨Hc3, HO⟩
  -- the wait on semaphore 3
  iapply (wait_cell m K c 3 rfl credit_3 (fun K' => wpE_waitDma2_eq 𝒱₀ (c : Thread nD τ) none Set.univ (dst := (Memref.whole cc0_stg1_0 : Memref sig .tc .vmem S512x2 .f32)) K') [6, 8] (by decide)) $$ [Hc3 HO Hp3]
  · isplitr; · iexact HR
    isplitr; · iexact Hlev
    isplitl [Hc3]; · iexact Hc3
    isplitl [HO]; · iexact HO
    iexact Hp3
  iintro ⟨HO, Hz3, Hpay⟩
  unfold pay
  icases Hpay with Hr
  -- the wait on semaphore 4
  iapply (wait_cell m K c 4 rfl credit_4 (fun K' => wpE_waitDma2_eq 𝒱₀ (c : Thread nD τ) none Set.univ (dst := (Memref.whole cc0_scratch2 : Memref sig .tc .vmem S512x2 .f32)) K') [6, 8] (by decide)) $$ [Hc4 HO Hp4]
  · isplitr; · iexact HR
    isplitr; · iexact Hlev
    isplitl [Hc4]; · iexact Hc4
    isplitl [HO]; · iexact HO
    iexact Hp4
  iintro ⟨HO, Hz4, Hpay⟩
  unfold pay
  icases Hpay with Hs2
  unfold pts
  iapply (wp_load 𝒱₀ (c : Thread nD τ) none Set.univ (m := (Memref.whole cc0_stg0_0 : Memref sig .tc .vmem S256x512 .f32)) (Finset.subset_univ _)) $$ Hx; iintro Hx
  rw [read_stg0_0]
  iapply (wp_load 𝒱₀ (c : Thread nD τ) none Set.univ (m := (Memref.whole cc0_stg1_0 : Memref sig .tc .vmem S512x2 .f32)) (Finset.subset_univ _)) $$ Hr; iintro Hr
  rw [read_stg1_0]
  iapply (wp_load 𝒱₀ (c : Thread nD τ) none Set.univ (m := (Memref.whole cc0_scratch2 : Memref sig .tc .vmem S512x2 .f32)) (Finset.subset_univ _)) $$ Hs2; iintro Hs2
  rw [read_s2]
  iapply (wp_load 𝒱₀ (c : Thread nD τ) none Set.univ (m := (Memref.whole cc0_scratch3 : Memref sig .tc .vmem S256x2 .f32)) (Finset.subset_univ _)) $$ Hs3; iintro Hs3
  iapply (wp_store 𝒱₀ (c : Thread nD τ) none Set.univ (m := (Memref.whole cc0_scratch3 : Memref sig .tc .vmem S256x2 .f32)) (r := Rect.unit (s := S256x2) ![0, 0] S256x2.size inb_S256x2_S256x2_0_0) (Mk := Finset.univ) (Finset.subset_univ _)) $$ Hs3; iintro Hs3
  rw [write_s3]
  -- the remote copy of cc0_scratch3 into the peer's cc0_scratch4
  iapply (send_cell m K c (dev4_peer c) (src := (Memref.whole cc0_scratch3 : Memref sig .tc .vmem S256x2 .f32)) (dst := (Memref.whole cc0_scratch4 : Memref sig .tc .vmem S256x2 .f32)) 5 6
    rfl rfl rfl rfl (View.set_whole _) (View.set_whole _) (wsnd m c) p4 (by unfold pay pts; exact BI.Entails.refl _)
    (by unfold pay pts; rw [peer_peer]; exact Entails.of_eq (congrArg _ (View.write_whole_univ _ _ _))) [8]) $$ [Hs3 Hq4 HO Ht5 Ht6]
  · isplitr; · iexact HR
    isplitl [Hs3]; · iexact Hs3
    isplitl [Hq4]; · iexact Hq4
    isplitl [HO]; · iexact HO
    isplitl [Ht5]; · iexact Ht5
    iexact Ht6
  iintro ⟨Hc5, HO⟩
  -- the wait on semaphore 9
  iapply (wait_cell m K c 9 rfl credit_9 (fun K' => wpE_waitDma2_eq 𝒱₀ (c : Thread nD τ) none Set.univ (dst := (Memref.whole cc0_scratch7 : Memref sig .tc .vmem S2x512x1024 .f32)) K') [8] (by decide)) $$ [Hc9 HO Hp9]
  · isplitr; · iexact HR
    isplitr; · iexact Hlev
    isplitl [Hc9]; · iexact Hc9
    isplitl [HO]; · iexact HO
    iexact Hp9
  iintro ⟨HO, Hz9, Hpay⟩
  unfold pay
  icases Hpay with ⟨Hs7, Ha2⟩
  -- the wait on semaphore 10
  iapply (wait_cell m K c 10 rfl credit_10 (fun K' => wpE_waitDma2_eq 𝒱₀ (c : Thread nD τ) none Set.univ (dst := (Memref.whole cc0_scratch8 : Memref sig .tc .vmem S2x1024x512 .f32)) K') [8] (by decide)) $$ [Hc10 HO Hp10]
  · isplitr; · iexact HR
    isplitr; · iexact Hlev
    isplitl [Hc10]; · iexact Hc10
    isplitl [HO]; · iexact HO
    iexact Hp10
  iintro ⟨HO, Hz10, Hpay⟩
  unfold pay
  icases Hpay with ⟨Hs8, Ha3⟩
  unfold pts
  iapply (wp_load 𝒱₀ (c : Thread nD τ) none Set.univ (m := (Memref.whole cc0_scratch7 : Memref sig .tc .vmem S2x512x1024 .f32)) (Finset.subset_univ _)) $$ Hs7; iintro Hs7
  iapply (wp_load 𝒱₀ (c : Thread nD τ) none Set.univ (m := (Memref.whole cc0_scratch7 : Memref sig .tc .vmem S2x512x1024 .f32)) (Finset.subset_univ _)) $$ Hs7; iintro Hs7
  iapply (wp_load 𝒱₀ (c : Thread nD τ) none Set.univ (m := (Memref.whole cc0_scratch8 : Memref sig .tc .vmem S2x1024x512 .f32)) (Finset.subset_univ _)) $$ Hs8; iintro Hs8
  iapply (wp_load 𝒱₀ (c : Thread nD τ) none Set.univ (m := (Memref.whole cc0_scratch8 : Memref sig .tc .vmem S2x1024x512 .f32)) (Finset.subset_univ _)) $$ Hs8; iintro Hs8
  -- the wait on semaphore 1
  iapply (wait_cell m K c 1 rfl credit_1 (fun K' => wpE_waitDma2_eq 𝒱₀ (c : Thread nD τ) none Set.univ (dst := (Memref.whole cc0_scratch0 : Memref sig .tc .vmem S256x512 .bf16)) K') [8] (by decide)) $$ [Hc1 HO Hp1]
  · isplitr; · iexact HR
    isplitr; · iexact Hlev
    isplitl [Hc1]; · iexact Hc1
    isplitl [HO]; · iexact HO
    iexact Hp1
  iintro ⟨HO, Hz1, Hpay⟩
  unfold pay
  icases Hpay with Hs0
  -- the wait on semaphore 2
  iapply (wait_cell m K c 2 rfl credit_2 (fun K' => wpE_waitDma2_eq 𝒱₀ (c : Thread nD τ) none Set.univ (dst := (Memref.whole cc0_scratch1 : Memref sig .tc .vmem S256x512 .bf16)) K') [8] (by decide)) $$ [Hc2 HO Hp2]
  · isplitr; · iexact HR
    isplitr; · iexact Hlev
    isplitl [Hc2]; · iexact Hc2
    isplitl [HO]; · iexact HO
    iexact Hp2
  iintro ⟨HO, Hz2, Hpay⟩
  unfold pay
  icases Hpay with Hs1
  -- the wait on semaphore 5
  iapply (wait_cell m K c 5 rfl credit_5 (fun K' => wpE_waitDma2_eq 𝒱₀ (c : Thread nD τ) none Set.univ (dst := (Memref.whole cc0_scratch3 : Memref sig .tc .vmem S256x2 .f32)) K') [8] (by decide)) $$ [Hc5 HO Hp5]
  · isplitr; · iexact HR
    isplitr; · iexact Hlev
    isplitl [Hc5]; · iexact Hc5
    isplitl [HO]; · iexact HO
    iexact Hp5
  iintro ⟨HO, Hz5, Hpay⟩
  unfold pay
  icases Hpay with Hs3
  -- the wait on semaphore 6
  iapply (wait_cell m K c 6 rfl credit_6 (fun K' => wpE_waitDma2_eq 𝒱₀ (c : Thread nD τ) none Set.univ (dst := (Memref.whole cc0_scratch4 : Memref sig .tc .vmem S256x2 .f32)) K') [8] (by decide)) $$ [Hc6 HO Hp6]
  · isplitr; · iexact HR
    isplitr; · iexact Hlev
    isplitl [Hc6]; · iexact Hc6
    isplitl [HO]; · iexact HO
    iexact Hp6
  iintro ⟨HO, Hz6, Hpay⟩
  unfold pay
  icases Hpay with Hs4
  unfold pts
  iapply (wp_load 𝒱₀ (c : Thread nD τ) none Set.univ (m := (Memref.whole cc0_scratch1 : Memref sig .tc .vmem S256x512 .bf16)) (Finset.subset_univ _)) $$ Hs1; iintro Hs1
  rw [read_s1]
  iapply (wp_load 𝒱₀ (c : Thread nD τ) none Set.univ (m := (Memref.whole cc0_scratch4 : Memref sig .tc .vmem S256x2 .f32)) (Finset.subset_univ _)) $$ Hs4; iintro Hs4
  iapply (wp_load 𝒱₀ (c : Thread nD τ) none Set.univ (m := (Memref.whole cc0_scratch4 : Memref sig .tc .vmem S256x2 .f32)) (Finset.subset_univ _)) $$ Hs4; iintro Hs4
  iapply (wp_load 𝒱₀ (c : Thread nD τ) none Set.univ (m := (Memref.whole cc0_scratch5 : Memref sig .tc .vmem S256x512 .bf16)) (Finset.subset_univ _)) $$ Hs5; iintro Hs5
  iapply (wp_store 𝒱₀ (c : Thread nD τ) none Set.univ (m := (Memref.whole cc0_scratch5 : Memref sig .tc .vmem S256x512 .bf16)) (r := Rect.unit (s := S256x512) ![0, 0] S256x512.size inb_S256x512_S256x512_0_0) (Mk := Finset.univ) (Finset.subset_univ _)) $$ Hs5; iintro Hs5
  rw [write_s5]
  -- the remote copy of cc0_scratch5 into the peer's cc0_scratch6
  iapply (send_cell m K c (dev5_peer c) (src := (Memref.whole cc0_scratch5 : Memref sig .tc .vmem S256x512 .bf16)) (dst := (Memref.whole cc0_scratch6 : Memref sig .tc .vmem S256x512 .bf16)) 7 8
    rfl rfl rfl rfl (View.set_whole _) (View.set_whole _) (psnd m c) p6 (by unfold pay pts; exact BI.Entails.refl _)
    (by unfold pay pts; rw [peer_peer]; exact Entails.of_eq (congrArg _ (View.write_whole_univ _ _ _))) []) $$ [Hs5 Hq6 HO Ht7 Ht8]
  · isplitr; · iexact HR
    isplitl [Hs5]; · iexact Hs5
    isplitl [Hq6]; · iexact Hq6
    isplitl [HO]; · iexact HO
    isplitl [Ht7]; · iexact Ht7
    iexact Ht8
  iintro ⟨Hc7, HO⟩
  -- the wait on semaphore 7
  iapply (wait_cell m K c 7 rfl credit_7 (fun K' => wpE_waitDma2_eq 𝒱₀ (c : Thread nD τ) none Set.univ (dst := (Memref.whole cc0_scratch5 : Memref sig .tc .vmem S256x512 .bf16)) K') [] (by decide)) $$ [Hc7 HO Hp7]
  · isplitr; · iexact HR
    isplitr; · iexact Hlev
    isplitl [Hc7]; · iexact Hc7
    isplitl [HO]; · iexact HO
    iexact Hp7
  iintro ⟨HO, Hz7, Hpay⟩
  unfold pay
  icases Hpay with Hs5
  -- the wait on semaphore 8
  iapply (wait_cell m K c 8 rfl credit_8 (fun K' => wpE_waitDma2_eq 𝒱₀ (c : Thread nD τ) none Set.univ (dst := (Memref.whole cc0_scratch6 : Memref sig .tc .vmem S256x512 .bf16)) K') [] (by decide)) $$ [Hc8 HO Hp8]
  · isplitr; · iexact HR
    isplitr; · iexact Hlev
    isplitl [Hc8]; · iexact Hc8
    isplitl [HO]; · iexact HO
    iexact Hp8
  iintro ⟨HO, Hz8, Hpay⟩
  unfold pay
  icases Hpay with Hs6
  unfold pts
  iapply (wp_load 𝒱₀ (c : Thread nD τ) none Set.univ (m := (Memref.whole cc0_scratch6 : Memref sig .tc .vmem S256x512 .bf16)) (Finset.subset_univ _)) $$ Hs6; iintro Hs6
  rw [read_s6]
  iapply (wp_load 𝒱₀ (c : Thread nD τ) none Set.univ (m := (Memref.whole cc0_stg2_0 : Memref sig .tc .vmem S256x512 .f32)) (Finset.subset_univ _)) $$ Hout; iintro Hout
  iapply (wp_store 𝒱₀ (c : Thread nD τ) none Set.univ (m := (Memref.whole cc0_stg2_0 : Memref sig .tc .vmem S256x512 .f32)) (r := Rect.unit (s := S256x512) ![0, 0] S256x512.size inb_S256x512_S256x512_0_0) (Mk := Finset.univ) (Finset.subset_univ _)) $$ Hout; iintro Hout
  rw [write_stg2_0]
  rw [wp_ret]; imodintro
  iapply Hk
  unfold bodyPost Φ₁ scratch Dat.owesAt Pipeline.owesWithin
  rw [show (dats m 0 c).owed t0_0.succ = 0 from rfl, bigSep_fin11]
  isplitl [Ha2 Ha3 Hz0 Hz1 Hz2 Hz3 Hz4 Hz5 Hz6 Hz7 Hz8 Hz9 Hz10 Hs0 Hs1 Hs2 Hs3 Hs4 Hs5 Hs6 Hs7 Hs8]
  · unfold pts
    isplitl [Ha2 Ha3]
    · isplitl [Ha2]; · iexact Ha2
      iexact Ha3
    isplitl [Hz0 Hz1 Hz2 Hz3 Hz4 Hz5 Hz6 Hz7 Hz8 Hz9 Hz10]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      iexact Hz10
    isplitl [Hs0]; · (iexists _; iexact Hs0)
    isplitl [Hs1]; · (iexists _; iexact Hs1)
    isplitl [Hs2]; · (iexists _; iexact Hs2)
    isplitl [Hs3]; · (iexists _; iexact Hs3)
    isplitl [Hs4]; · (iexists _; iexact Hs4)
    isplitl [Hs5]; · (iexists _; iexact Hs5)
    isplitl [Hs6]; · (iexists _; iexact Hs6)
    isplitl [Hs7]; · (iexists _; iexact Hs7)
    iexists _; iexact Hs8
  isplitl [HO]
  · unfold owe; icases HO with ⟨%W', HO⟩
    iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  iexists _; isplitr; · (ipureintro; rfl)
  iexact Hout

def bodyPre' (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

set_option maxRecDepth 4000 in
/-- The body's obligation to the launch, on device `c`. -/
theorem body_obligation (c : Dev nD) : BodyObligation (dats (F := F) m 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from fun Φ => bigSep_W0 Φ,
    show ∀ Φ : Fin cfg0.W → sProp 𝕄, bigSep Finset.univ Φ = iprop(Φ (0 : Fin 3) ∗ Φ (1 : Fin 3) ∗ Φ (2 : Fin 3)) from fun Φ => bigSep_W0 Φ]
  simp only [owns_whole_eq]
  show bodyPre' m c ⊢ wp frame (wpE (defs₀ (F := F)) 𝒱₀ c none) Set.univ (bodyAt0 (F := F) t0_0) (fun _ => bodyPost m c)
  unfold bodyPre' Φ₀ start
  iintro ⟨⟨⟨⟨%K, Hg⟩, Hrest⟩, Hscr⟩, Ho, Hx, Hr, Hout⟩
  iapply (sound_body m K c fun _ => bodyPost m c)
  unfold bodyPre
  isplitr []
  · isplitl [Hg Hrest]
    · isplitl [Hg]; · iexact Hg
      iexact Hrest
    isplitl [Hscr]; · iexact Hscr
    isplitl [Ho]; · iexact Ho
    isplitl [Hx]; · iexact Hx
    isplitl [Hr] <;> iassumption
  · iintro H; iexact H

end Body

end Cert.Exchange

end
-- ==== Proof.Launch.lean ====
/-
  The launch: the exchange's ghost state dealt to the eight devices, and the run of the whole mesh.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

/-- The ten semaphores the kernel allocates itself (all but the barrier). -/
abbrev osem : Fin 10 → SemLoc sig := fun k => csem k.succ

theorem ownSemFacts : Pipeline.OwnSemFacts cfg0.spec osem := by decide

theorem share_eq (c : Dev nD) (w : Fin cfg0.W) : (dats m 0 c).share w = fullShare := by unfold Dat.share; split <;> rfl

/-- All 88 semaphores of the exchange, and the one duty token of each. -/
def meshCells : Finset (GSem nD τ sig) := Finset.univ.map ⟨kcell, kcell_injective⟩
def meshToks : Finset (GSem nD τ sig × ℕ × Unit) :=
  Finset.univ.map ⟨fun ck : Dev nD × Fin 11 => (kcell ck, 0, ()), fun a b h => kcell_injective (congrArg Prod.fst h)⟩

def u₀ : UU :=
  (initOf (Pipeline.cells cfgs cellOf_inj) (Pipeline.launchToks cfgs cellOf_inj), initOf meshCells meshToks)

/-- What the launch element deals device `c`: its own semaphores' round state, positions and marks, and their tokens. -/
def G (c : Dev nD) : sProp 𝕄 :=
  iprop((bigSep Finset.univ fun k : Fin 11 => roundState ER (rd m) (kcell (c, k)) 0)
    ∗ (bigSep Finset.univ fun k : Fin 11 => reached ER (kcell (c, k)) 0) ∗ places c
    ∗ bigSep Finset.univ fun k : Fin 11 => dutyTok ER (kcell (c, k)) 0 ())

/-- What the step over the whole mesh makes of it: the ghost state the body starts from. -/
def G' (c : Dev nD) : sProp 𝕄 := iprop(∃ K, ghost m K c)

theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : Fin 11 => Φ (kcell (c, k)) := by
    unfold meshCells; rw [bigSep_map, bigSep_univ_prod]; rfl
  have hT : bigSep meshToks (fun x => (dutyTok ER x.1 x.2.1 x.2.2 : sProp 𝕄))
      = bigSep Finset.univ fun c : Dev nD => bigSep Finset.univ fun k : Fin 11 => dutyTok ER (kcell (c, k)) 0 () := by
    unfold meshToks; rw [bigSep_map, bigSep_univ_prod]; rfl
  iintro HX
  imod (Rounds.fund ER (rd m) meshCells meshToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hr']; · iexact Hr'
  isplitl [Hat']; · iexact Hat'
  iexact Htok'

/-! ## The step over the whole mesh -/

theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0 ∗ semVal (kcell (c, 8)) 0 ∗ semVal (kcell (c, 9)) 0 ∗ semVal (kcell (c, 10)) 0) := by
  rw [Pipeline.ownSems0_eq_of_list c osem [0, 1, 2, 3, 4, 5, 6, 7, 8, 9] (by decide) (by decide)]; rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

/-- The barrier and the kernel's own ten semaphores are the eleven of the protocol. -/
theorem sems0_eq (c : Dev nD) :
    (bigSep Finset.univ fun k : Fin 11 => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_fin11]

/-- A conjunction over the devices may use a persistent fact at each of them. -/
theorem bigSep_use {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- On one device: every semaphore at zero, with its round state, becomes an invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 11 => iprop(∃ κ : ℕ, cellInv ER (rd m) κ (kcell (c, k))))
          ∗ (bigSep Finset.univ fun k : Fin 11 => reached ER (kcell (c, k)) 0) ∗ places c
          ∗ bigSep Finset.univ fun k : Fin 11 => dutyTok ER (kcell (c, k)) 0 ()) := by
  unfold G
  iintro ⟨Hos, Hus, Hst, Hrest⟩
  ihave Hv := (Entails.of_eq (sems0_eq (F := F) c).symm) $$ [Hos Hus]
  · isplitl [Hus] <;> iassumption
  imod (show iprop((bigSep Finset.univ fun k : Fin 11 => semVal (kcell (c, k)) 0) ∗ bigSep Finset.univ fun k : Fin 11 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  iexact Hrest

/-- Who contributes to which semaphore, as a permutation of the 88. -/
def deal : Dev nD × Fin 11 ≃ Dev nD × Fin 11 :=
  ⟨fun ck => (payee ck.2 ck.1, ck.2), fun ck => ((payee ck.2).symm ck.1, ck.2),
    fun ck => by dsimp only; rw [Equiv.symm_apply_apply], fun ck => by dsimp only; rw [Equiv.apply_symm_apply]⟩

/-- Every duty token goes to the device that makes the contribution. -/
theorem toks_dealt : (bigSep Finset.univ fun c : Dev nD => bigSep Finset.univ fun k : Fin 11 => (dutyTok ER (kcell (c, k)) 0 () : sProp 𝕄))
    = bigSep Finset.univ fun c : Dev nD => rights c := by
  unfold rights
  rw [← bigSep_univ_prod (fun ck : Dev nD × Fin 11 => (dutyTok ER (kcell ck) 0 () : sProp 𝕄)),
    bigSep_univ_equiv deal (fun ck : Dev nD × Fin 11 => (dutyTok ER (kcell ck) 0 () : sProp 𝕄)), bigSep_univ_prod]
  rfl

theorem regroup :
    (bigSep Finset.univ fun c : Dev nD => iprop((bigSep Finset.univ fun k : Fin 11 => iprop(∃ κ : ℕ, cellInv ER (rd m) κ (kcell (c, k))))
          ∗ (bigSep Finset.univ fun k : Fin 11 => reached ER (kcell (c, k)) 0) ∗ places c
          ∗ bigSep Finset.univ fun k : Fin 11 => dutyTok ER (kcell (c, k)) 0 ()) : sProp 𝕄)
      ⊢ bigSep Finset.univ (G' m) := by
  rw [bigSep_sep', bigSep_sep', bigSep_sep', ← bigSep_univ_prod (fun ck : Dev nD × Fin 11 => iprop(∃ κ : ℕ, cellInv ER (rd m) κ (kcell ck))),
    ← bigSep_univ_prod (fun ck : Dev nD × Fin 11 => (reached ER (kcell ck) 0 : sProp 𝕄)), toks_dealt]
  iintro ⟨HI, #HR, Hat, Htok⟩
  ihave HK := (BI.bigSep_exists_pi Finset.univ (fun (ck : Dev nD × Fin 11) (κ : ℕ) => (cellInv ER (rd m) κ (kcell ck) : sProp 𝕄))) $$ HI
  icases HK with ⟨%K, #HI⟩
  iapply (bigSep_use (R := records m K) (Φ := fun c => iprop(places c ∗ rights c)) fun c => by
    unfold G' ghost; iintro H; iexists K; iexact H)
  isplitr
  · unfold records; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit each device is dealt -/

/-- What device `d` owes device `c`'s semaphore `k`: the whole amount if `d` is its peer and `k` is among its dues. -/
theorem owing_at (l : List (Fin 11)) (hl : l.Nodup) (d c : Dev nD) (k : Fin 11) :
    owing l d (kcell (c, k)) () = if k ∈ l ∧ d = peer c then amt k else 0 := by
  induction l with
  | nil => rw [if_neg fun h => absurd h.1 (List.not_mem_nil)]; rfl
  | cons j l ih =>
    have hj := (List.nodup_cons.mp hl).1
    unfold owing
    rw [Pi.add_apply, Finsupp.add_apply, ih (List.nodup_cons.mp hl).2, tallyAt_apply]
    by_cases hd : d = peer c
    · by_cases hk : k = j
      · subst hk; subst hd
        rw [if_neg fun h : k ∈ l ∧ _ => hj h.1, if_pos ⟨by rw [peer_peer], rfl⟩, if_pos ⟨List.mem_cons_self .., rfl⟩, Nat.zero_add]
      · rw [if_neg fun h : kcell (c, k) = kcell (peer d, j) ∧ _ => hk (congrArg Prod.snd (kcell_injective h.1)), Nat.add_zero]
        exact if_congr ⟨fun h => ⟨List.mem_cons_of_mem _ h.1, h.2⟩, fun h => ⟨(List.mem_cons.mp h.1).resolve_left hk, h.2⟩⟩ rfl rfl
    · rw [if_neg fun h => hd h.2, if_neg fun h : kcell (c, k) = kcell (peer d, j) ∧ _ => hd (by
        rw [show c = peer d from congrArg Prod.fst (kcell_injective h.1)]; exact (peer_peer d).symm), if_neg fun h => hd h.2]

theorem launch_at (c : Dev nD) (k : Fin 11) (hk : k ∈ dues) :
    tallyOn (kcell (c, k)) (launchCredit (Pipeline.owing (owing dues)) 0 (kcell (c, k))) = (tallyAt (kcell (c, k)) () (amt k) : CellTallies nD τ sig Unit) := by
  unfold tallyAt; refine congrArg _ (Finsupp.ext fun u => ?_); cases u
  rw [Pipeline.launchCredit_owing, Finsupp.single_eq_same, Finset.sum_congr rfl fun d _ => owing_at dues (by decide) d c k]
  simp only [hk, true_and]
  rw [Finset.sum_ite_eq' Finset.univ (peer c) fun _ => amt k, if_pos (Finset.mem_univ _)]

theorem creds (c : Dev nD) :
    (Pipeline.launchCred (owing dues) c : sProp 𝕄) ⊢ iprop(cred (tallyAt (kcell (c, 0)) () (amt 0)) ∗ cred (tallyAt (kcell (c, 2)) () (amt 2)) ∗ cred (tallyAt (kcell (c, 4)) () (amt 4))
      ∗ cred (tallyAt (kcell (c, 6)) () (amt 6)) ∗ cred (tallyAt (kcell (c, 8)) () (amt 8))) := by
  unfold Pipeline.launchCred
  refine (bigSep_subset (Finset.subset_univ ({csem 0, csem 2, csem 4, csem 6, csem 8} : Finset (SemLoc sig)))).trans ?_
  rw [bigSep_eq_bigSepL_of_eq [csem 0, csem 2, csem 4, csem 6, csem 8] (by decide) (by decide)]
  rw [← launch_at c 0 (by decide), ← launch_at c 2 (by decide), ← launch_at c 4 (by decide), ← launch_at c 6 (by decide), ← launch_at c 8 (by decide)]
  exact BI.Entails.refl _

/-! ## The launch's side conditions -/

theorem start_intro (c : Dev nD) :
    iprop(Pipeline.unscopedRestP Pipeline.Prefetch.none cfg0.spec c (fun b => m ((c : Thread nD τ).loc b)) ∗ levAts L lv
        ∗ Pipeline.launchCred (owing dues) c ∗ prngReg c (ρ c) ∗ G' m c)
      ⊢ |={Set.univ}=> iprop(start m c ∗ emp) := by
  rw [Pipeline.unscopedRestP_none, show cfg0.spec = spec0 from rfl, unscopedRest0_eq]
  iintro ⟨Hun, Hlev, Hcr, -, HG⟩
  ihave Hc := (creds (F := F) c) $$ Hcr
  imodintro
  unfold start G'
  isplitl
  · isplitl [HG]; · iexact HG
    isplitl [Hc]; · iexact Hc
    isplitl [Hlev]; · iexact Hlev
    unfold pts w1At w2At
    iexact Hun
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show cfg0.spec = spec0 from rfl, scopedRest0_eq]
  unfold Φ₀ scratch pts
  iintro ⟨Hs, -, Hr⟩
  isplitl [Hs]; · iexact Hs
  iexact Hr

theorem phi1_exit (c : Dev nD) :
    (dats m 0 c).Φ (Fin.last cfg0.N) ⊢ iprop(((pts c main_arg2 (w1At m c) ∗ pts c main_arg3 (w2At m c)) ∗ unscopedSems0 c)
      ∗ Pipeline.ownSems0 osem c ∗ Pipeline.scopedRest cfg0.spec c) := by
  rw [show (dats m 0 c).Φ (Fin.last cfg0.N) = Φ₁ m c from rfl, show cfg0.spec = spec0 from rfl, scopedRest0_eq]
  unfold Φ₁ scratch
  rw [sems0_eq]
  iintro ⟨Hw, ⟨Hu, Ho⟩, Hr⟩
  isplitl [Hw Hu]
  · isplitl [Hw] <;> iassumption
  isplitl [Ho]; · iexact Ho
  unfold pts
  iexact Hr

theorem waits (c : Dev nD) : (levAts L lv : sProp 𝕄) ⊢ Pipeline.cellsWaits cfgs (dats m) () 0 c :=
  Pipeline.cellsWaits_intro cfgs (dats m) () 0 c fun w s t => by
    have hk : ∀ w : Fin cfg0.W, ∀ s, kindOf (SemLoc.dma ((cfg0.win w).sem s)) = none := by decide
    rcases t with ⟨_ | _, ht⟩
    · exact mayWait_of c _ dues (by rw [hk]; decide)
    · exact mayWait_of c _ [] (fun k hk => absurd hk List.not_mem_nil)

/-- What a device reads at the end besides the launch's own arrays: the barrier at zero, the weight arrays as they were. -/
def QY (c : Dev nD) (s : MemSt nD τ sig (Elt F)) : Prop :=
  (s.mem ((c : Thread nD τ).loc main_arg2) = w1At m c ∧ s.mem ((c : Thread nD τ).loc main_arg3) = w2At m c)
    ∧ ∀ sm : SemLoc sig, sm.isScoped .tc = false → s.sem ((c.tc : Thread nD τ), sm) = 0

theorem weights_pair (c : Dev nD) :
    (bigSep ({main_arg2, main_arg3} : Finset (Ref sig .tc)) fun b => ((c : Thread nD τ).loc b ↦{fullShare} m ((c : Thread nD τ).loc b) : sProp 𝕄))
      = iprop(pts c main_arg2 (w1At m c) ∗ pts c main_arg3 (w2At m c)) := by
  rw [bigSep_eq_bigSepL_of_eq [main_arg2, main_arg3] (by decide) (by decide)]; rfl

theorem weights_read (c : Dev nD) (s' : Phys nD τ sig (Elt F)) :
    iprop((pts c main_arg2 (w1At m c) ∗ pts c main_arg3 (w2At m c)) ∗ SI s')
      ⊢ (iprop(⌜s'.mem.mem ((c : Thread nD τ).loc main_arg2) = w1At m c ∧ s'.mem.mem ((c : Thread nD τ).loc main_arg3) = w2At m c⌝ ∗ SI s') : sProp 𝕄) := by
  iintro ⟨Hw, HSI⟩
  ihave H := (pointsTo_read_all (Ix := Unit) (Name := ℕ) (U := UU) (Lvl := ℕ) ({main_arg2, main_arg3} : Finset (Ref sig .tc)) (fun b => (c : Thread nD τ).loc b)
    (fun b => m ((c : Thread nD τ).loc b)) s') $$ [Hw HSI]
  · isplitl [Hw]
    · rw [weights_pair]; iexact Hw
    iexact HSI
  icases H with ⟨%hb, HSI⟩
  isplitr
  · ipureintro; exact ⟨hb main_arg2 (by decide), hb main_arg3 (by decide)⟩
  iexact HSI

/-! ## The run -/

/-- The contents of window `w`'s array on device `c` after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg2) = w1At m c ∧ r.2.mem ((c : Thread nD τ).loc main_arg3) = w2At m c

set_option maxRecDepth 8000 in
/-- On the eight devices, for any float values, from any memory with every semaphore at zero: every weakly fair execution
    terminates without a fault, and at the end every array is as computed and every semaphore is at zero. -/
theorem run_raw : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owing dues) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := fun c => iprop((pts c main_arg2 (w1At m c) ∗ pts c main_arg3 (w2At m c)) ∗ unscopedSems0 c)) (Z := fun _ => iprop(emp))
    (hX := start_intro m ρ) (hin := phi0_intro m) (hout := phi1_exit m)
    (QY := QY m)
    (hY := fun c s' => by
      unfold QY
      iintro ⟨⟨Hw, Hu⟩, -, HSI⟩
      ihave H := (weights_read m c s') $$ [Hw HSI]
      · isplitl [Hw] <;> iassumption
      icases H with ⟨%hw, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hw, hs⟩
      iexact HSI)
    (hQ := fun _ h hs => ⟨fun c => ⟨(h c).1, (h c).2.2.1⟩, sem_eq_zero hs fun c => (h c).2.2.2⟩)

/-- The `x` and router arrays after the run hold what they held. -/
theorem finalA_x (c : Dev nD) : finalA m c (0 : Fin 3) = m ((c : Thread nD τ).loc main_arg0) := (dats (F := F) m 0 c).arrAt_in (0 : Fin 3) rfl _
theorem finalA_r (c : Dev nD) : finalA m c (1 : Fin 3) = m ((c : Thread nD τ).loc main_arg1) := (dats (F := F) m 0 c).arrAt_in (1 : Fin 3) rfl _

end Cert.Exchange

end
-- ==== Proof.Run.lean ====
/-
  The run of the whole mesh, with the contents of every array of the program written out.
-/
module

public import proofs.«01_k».proof.Proof.Launch

@[expose] public section

noncomputable section

namespace Cert.Exchange

open Cert.KernelIdeal Cert.KernelIdeal.Gen

open Idealize.ShloMosaic
open Idealize.ShloMosaic.TcCoe
open Idealize.SL Idealize.SL.Sem

variable {F : FTy → Type} [FloatOps F]
variable (m : (ℓ : Loc nD τ sig) → Buf (Elt F) ℓ) (ρ : Dev nD → PrngReg)

/-- The one block of each window begins at the array's origin. -/
theorem origin_x : (fun a => (win0_0.index (0 : Fin 1)) a * main_arg0.ty.shape.size a) = fun _ => 0 :=
  funext fun a => by fin_cases a <;> decide
theorem origin_r : (fun a => (win0_1.index (0 : Fin 1)) a * main_arg1.ty.shape.size a) = fun _ => 0 :=
  funext fun a => by fin_cases a <;> decide
theorem origin_o : (fun a => (win0_2.index (0 : Fin 1)) a * main_v1.ty.shape.size a) = fun _ => 0 :=
  funext fun a => by fin_cases a <;> decide

/-- What a device stages of `x` and of the router is its argument, whole. -/
theorem xstg_eq (c : Dev nD) : xstg m c = m ((c : Thread nD τ).loc main_arg0) :=
  Memref.read_access_unit_zero (Elt F) main_arg0 origin_x (fun a => by fin_cases a <;> decide) _
theorem rstg_eq (c : Dev nD) : rstg m c = m ((c : Thread nD τ).loc main_arg1) :=
  Memref.read_access_unit_zero (Elt F) main_arg1 origin_r (fun a => by fin_cases a <;> decide) _

/-- The output array after the run holds what the body left in the output's staging buffer. -/
theorem finalA_o (c : Dev nD) : finalA m c (2 : Fin 3) = outAt m c := by
  have h : (win0_2.blk (0 : Fin 1)).view.read (Elt F) (finalA m c (2 : Fin 3)) = outAt m c := by
    unfold finalA
    rw [show cfg0.N = ((0 : Fin 1) : Fin cfg0.N).val + 1 from rfl, (dats m 0 c).arrAt_succ (2 : Fin 3) (0 : Fin 1)]
    rw [show (cfg0.win (2 : Fin 3)).flush (0 : Fin 1) = true from by decide, if_pos rfl]
    exact View.read_write_univ _ _
  exact (Memref.read_access_unit_zero (Elt F) main_v1 origin_o (fun a => by fin_cases a <;> decide) _).symm.trans h

/-- From any memory with every semaphore at zero, at any float values: every execution of the eight devices ends without
    a fault; the result array of device `c` then holds `outAt m c`, the four argument arrays hold what they held, and
    every semaphore is at zero. -/
theorem run_main : θ_run defs (onTc (τ := τ) (main (F := F))) ⟨m, fun _ => 0, ρ⟩ (fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).1 (2 : Fin 3)).trans (finalA_o m c), ((h.1 c).1 (0 : Fin 3)).trans (finalA_x m c),
      ((h.1 c).1 (1 : Fin 3)).trans (finalA_r m c), (h.1 c).2.1, (h.1 c).2.2⟩, h.2⟩) (run_raw m ρ)

/-- That run with the contents of the result dropped: the four argument arrays keep their contents and every semaphore is
    at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_main m ρ)

end Cert.Exchange

end
-- ==== Proof.KernelValue.lean ====
/-
  What the kernel leaves in a device's result, read at one element.
-/
module

public import proofs.«01_k».proof.Proof.Moe
public import proofs.«01_k».proof.Proof.Run

@[expose] public section

noncomputable section

namespace Cert.Exchange

open Cert.KernelIdeal Cert.KernelIdeal.Gen Cert.Moe
open Idealize.ShloMosaic
open Idealize.ShloMosaic.TcCoe

/-! ## The gates of a row, and what the kernel makes of them -/

section gates
variable (x : FVec Ideal S256x512 .f32) (g : FVec Ideal S256x2 .f32) (v : FVec Ideal S512x2 .f32) (r : Fin 256)

/-- The gate of row `r` of `x` against column `e` of `v`. -/
abbrev gt (x : FVec Ideal S256x512 .f32) (v : FVec Ideal S512x2 .f32) (r : Fin 256) (e : Fin 2) : EReal :=
  gate (fun k => x (ix2 r k)) (fun k => v (ix2 k e))

/-- The gates a device computes of its own router columns. -/
theorem pay4_apply (e : Fin 2) : k0_pay4 (F := Ideal) x v (ix2 r e) = gt x v r e := by
  unfold gt gate
  pointwise [k0_pay4, k0_pay3]

/-- The largest gate of a row, and the second largest. -/
theorem pay12_apply : k0_pay12 x g v (ix2 r 0) = top (g (ix2 r 0)) (g (ix2 r 1)) (gt x v r 0) (gt x v r 1) := by
  unfold top gt gate
  pointwise [k0_pay12, k0_pay10, k0_pay11, k0_pay5, k0_pay6, k0_pay7, k0_pay8, k0_pay9]
theorem pay13_apply : k0_pay13 x g v (ix2 r 0) = second (g (ix2 r 0)) (g (ix2 r 1)) (gt x v r 0) (gt x v r 1) := by
  unfold second gt gate
  pointwise [k0_pay13, k0_pay10, k0_pay11, k0_pay5, k0_pay6, k0_pay7, k0_pay8, k0_pay9]

/-- The four unnormalised weights of a row: its own two experts', its peer's two experts'. -/
theorem pay14_apply : k0_pay14 x g v (ix2 r 0) = mass (top (g (ix2 r 0)) (g (ix2 r 1)) (gt x v r 0) (gt x v r 1))
    (second (g (ix2 r 0)) (g (ix2 r 1)) (gt x v r 0) (gt x v r 1)) (g (ix2 r 0)) := by
  rw [← pay12_apply, ← pay13_apply]
  unfold mass
  pointwise [k0_pay14, k0_pay6]
theorem pay15_apply : k0_pay15 x g v (ix2 r 0) = mass (top (g (ix2 r 0)) (g (ix2 r 1)) (gt x v r 0) (gt x v r 1))
    (second (g (ix2 r 0)) (g (ix2 r 1)) (gt x v r 0) (gt x v r 1)) (g (ix2 r 1)) := by
  rw [← pay12_apply, ← pay13_apply]
  unfold mass
  pointwise [k0_pay15, k0_pay7]
theorem pay16_apply : k0_pay16 x g v (ix2 r 0) = mass (top (g (ix2 r 0)) (g (ix2 r 1)) (gt x v r 0) (gt x v r 1))
    (second (g (ix2 r 0)) (g (ix2 r 1)) (gt x v r 0) (gt x v r 1)) (gt x v r 0) := by
  rw [← pay12_apply, ← pay13_apply]
  unfold mass gt gate
  pointwise [k0_pay16, k0_pay8, k0_pay5]
theorem pay17_apply : k0_pay17 x g v (ix2 r 0) = mass (top (g (ix2 r 0)) (g (ix2 r 1)) (gt x v r 0) (gt x v r 1))
    (second (g (ix2 r 0)) (g (ix2 r 1)) (gt x v r 0) (gt x v r 1)) (gt x v r 1) := by
  rw [← pay12_apply, ← pay13_apply]
  unfold mass gt gate
  pointwise [k0_pay17, k0_pay9, k0_pay5]

/-- The weights of its own two experts. -/
theorem pay19_apply : k0_pay19 x g v (ix2 r 0) = weight (g (ix2 r 0)) (g (ix2 r 1)) (gt x v r 0) (gt x v r 1) (g (ix2 r 0)) := by
  unfold weight
  rw [← pay14_apply, ← pay15_apply, ← pay16_apply, ← pay17_apply]
  pointwise [k0_pay19, k0_pay18]
theorem pay20_apply : k0_pay20 x g v (ix2 r 0) = weight (g (ix2 r 0)) (g (ix2 r 1)) (gt x v r 0) (gt x v r 1) (g (ix2 r 1)) := by
  unfold weight
  rw [← pay14_apply, ← pay15_apply, ← pay16_apply, ← pay17_apply]
  pointwise [k0_pay20, k0_pay18]

/-- The weights of its peer's two experts, which it sends. -/
theorem pay21_apply0 : k0_pay21 x g v (ix2 r 0) = weight (g (ix2 r 0)) (g (ix2 r 1)) (gt x v r 0) (gt x v r 1) (gt x v r 0) := by
  unfold weight
  rw [← pay14_apply, ← pay15_apply, ← pay16_apply, ← pay17_apply]
  pointwise [k0_pay21, k0_pay18]
theorem pay21_apply1 : k0_pay21 x g v (ix2 r 1) = weight (g (ix2 r 0)) (g (ix2 r 1)) (gt x v r 0) (gt x v r 1) (gt x v r 1) := by
  unfold weight
  rw [← pay14_apply, ← pay15_apply, ← pay16_apply, ← pay17_apply]
  pointwise [k0_pay21, k0_pay18]

end gates

/-! ## The two partial sums -/

/-- The partial sum a device keeps. -/
theorem pay28_apply (x : FVec Ideal S256x512 .f32) (a b : FVec Ideal S256x1 .f32) (u1 u2 : FVec Ideal S512x1024 .bf16)
    (v1 v2 : FVec Ideal S1024x512 .bf16) (r : Fin 256) (l : Fin 512) :
    k0_pay28 x a b u1 u2 v1 v2 (ix2 r l)
      = expert (fun k => x (ix2 r k)) (fun k h => u1 (ix2 k h)) (fun h l => v1 (ix2 h l)) l * a (ix2 r 0)
        + expert (fun k => x (ix2 r k)) (fun k h => u2 (ix2 k h)) (fun h l => v2 (ix2 h l)) l * b (ix2 r 0) := by
  unfold expert
  pointwise [k0_pay28]

/-- The partial sum it sends. -/
theorem pay26_apply (u1 u2 : FVec Ideal S512x1024 .bf16) (v1 v2 : FVec Ideal S1024x512 .bf16) (x : FVec Ideal S256x512 .bf16)
    (a b : FVec Ideal S256x1 .f32) (r : Fin 256) (l : Fin 512) :
    k0_pay27 (k0_pay26 u1 u2 v1 v2 x a b) (ix2 r l)
      = expert (fun k => x (ix2 r k)) (fun k h => u1 (ix2 k h)) (fun h l => v1 (ix2 h l)) l * a (ix2 r 0)
        + expert (fun k => x (ix2 r k)) (fun k h => u2 (ix2 k h)) (fun h l => v2 (ix2 h l)) l * b (ix2 r 0) := by
  unfold expert
  pointwise [k0_pay27, k0_pay26]

/-! ## A device's contents in terms of the arguments -/

variable (m : (ℓ : Loc nD τ sig) → Buf (Elt Ideal) ℓ)

/-- Device `c`'s four arguments. -/
abbrev ax (c : Dev nD) : FVec Ideal S256x512 .f32 := m ((c : Thread nD τ).loc main_arg0)
abbrev ar (c : Dev nD) : FVec Ideal S512x2 .f32 := m ((c : Thread nD τ).loc main_arg1)
abbrev aw1 (c : Dev nD) : FVec Ideal S2x512x1024 .f32 := m ((c : Thread nD τ).loc main_arg2)
abbrev aw2 (c : Dev nD) : FVec Ideal S2x1024x512 .f32 := m ((c : Thread nD τ).loc main_arg3)

/-- Casting the activations changes nothing, sent or kept. -/
theorem xrd_eq (c : Dev nD) : xrd m c = ax m c := by
  unfold xrd
  rw [xstg_eq]
  funext i
  idx_vars i
  pointwise [k0_pay3]
theorem xsnd_apply (c : Dev nD) (r : Fin 256) (l : Fin 512) : xsnd m c (ix2 r l) = ax m c (ix2 r l) := by
  unfold xsnd
  rw [xstg_eq]
  pointwise [k0_pay2]

/-- The gates of its own router columns. -/
theorem gown_apply (c : Dev nD) (r : Fin 256) (e : Fin 2) : gown m c (ix2 r e) = gt (ax m c) (ar m c) r e := by
  unfold gown
  rw [xstg_eq, rstg_eq]
  exact pay4_apply _ _ _ _

/-- The expert slabs: each is the expert's own matrix. -/
theorem w1a_apply (c : Dev nD) (k : Fin 512) (h : Fin 1024) : w1a m c (ix2 k h) = aw1 m c (ix3 0 k h) := by
  show k0_pay22 (F := Ideal) (View.ld (aw1 m c) (Rect.unit (s := S2x512x1024) ![0, 0, 0] S1x512x1024.size inb_S2x512x1024_S1x512x1024_0_0_0)) (ix2 k h) = _
  pointwise [k0_pay22]
theorem w1b_apply (c : Dev nD) (k : Fin 512) (h : Fin 1024) : w1b m c (ix2 k h) = aw1 m c (ix3 1 k h) := by
  show k0_pay23 (F := Ideal) (View.ld (aw1 m c) (Rect.unit (s := S2x512x1024) ![1, 0, 0] S1x512x1024.size inb_S2x512x1024_S1x512x1024_1_0_0)) (ix2 k h) = _
  pointwise [k0_pay23]
theorem w2a_apply (c : Dev nD) (k : Fin 1024) (h : Fin 512) : w2a m c (ix2 k h) = aw2 m c (ix3 0 k h) := by
  show k0_pay24 (F := Ideal) (View.ld (aw2 m c) (Rect.unit (s := S2x1024x512) ![0, 0, 0] S1x1024x512.size inb_S2x1024x512_S1x1024x512_0_0_0)) (ix2 k h) = _
  pointwise [k0_pay24]
theorem w2b_apply (c : Dev nD) (k : Fin 1024) (h : Fin 512) : w2b m c (ix2 k h) = aw2 m c (ix3 1 k h) := by
  show k0_pay25 (F := Ideal) (View.ld (aw2 m c) (Rect.unit (s := S2x1024x512) ![1, 0, 0] S1x1024x512.size inb_S2x1024x512_S1x1024x512_1_0_0)) (ix2 k h) = _
  pointwise [k0_pay25]

/-- The columns of the weights that arrived. -/
theorem wina_apply (c : Dev nD) (r : Fin 256) : wina m c (ix2 r 0) = wsnd m (peer c) (ix2 r 0) := by
  show View.ld (wsnd m (peer c)) (Rect.unit (s := S256x2) ![0, 0] S256x1.size inb_S256x2_S256x1_0_0) (ix2 r 0) = _
  pointwise
theorem winb_apply (c : Dev nD) (r : Fin 256) : winb m c (ix2 r 0) = wsnd m (peer c) (ix2 r 1) := by
  show View.ld (wsnd m (peer c)) (Rect.unit (s := S256x2) ![0, 1] S256x1.size inb_S256x2_S256x1_0_1) (ix2 r 0) = _
  pointwise

/-- One element of a device's result: its row of `x` against its own two experts, weighted, plus the same row against its
    peer's two experts, weighted, the four gates being those of its own router columns and of its peer's. -/
theorem outAt_apply (c : Dev nD) (r : Fin 256) (l : Fin 512) (a b a' b' : EReal)
    (ha : a = gt (ax m c) (ar m c) r 0) (hb : b = gt (ax m c) (ar m c) r 1)
    (ha' : a' = gt (ax m c) (ar m (peer c)) r 0) (hb' : b' = gt (ax m c) (ar m (peer c)) r 1) :
    outAt m c (ix2 r l)
      = (expert (fun k => ax m c (ix2 r k)) (fun k h => aw1 m c (ix3 0 k h)) (fun h l => aw2 m c (ix3 0 h l)) l * weight a b a' b' a
          + expert (fun k => ax m c (ix2 r k)) (fun k h => aw1 m c (ix3 1 k h)) (fun h l => aw2 m c (ix3 1 h l)) l * weight a b a' b' b)
        + (expert (fun k => ax m c (ix2 r k)) (fun k h => aw1 m (peer c) (ix3 0 k h)) (fun h l => aw2 m (peer c) (ix3 0 h l)) l * weight a b a' b' a'
          + expert (fun k => ax m c (ix2 r k)) (fun k h => aw1 m (peer c) (ix3 1 k h)) (fun h l => aw2 m (peer c) (ix3 1 h l)) l * weight a b a' b' b') := by
  have hadd : outAt m c (ix2 r l) = pown m c (ix2 r l) + psnd m (peer c) (ix2 r l) := by
    unfold outAt
    pointwise [k0_pay1]
  rw [hadd]
  unfold pown psnd
  rw [pay28_apply, pay26_apply]
  simp only [wina_apply, winb_apply, peer_peer, xsnd_apply, w1a_apply, w1b_apply, w2a_apply, w2b_apply]
  unfold wa wb wsnd
  rw [pay19_apply, pay20_apply, pay21_apply0, pay21_apply1]
  simp only [gown_apply, xrd_eq, rstg_eq, ha, hb, ha', hb']

end Cert.Exchange

end
-- ==== Proof.RefValue.lean ====
/-
  What the reference computes, read at one element.
-/
module

public import proofs.«01_k».proof.Proof.Moe
public import proofs.«01_k».proof.Proof.Gen.ReferenceIdeal.Run

@[expose] public section

noncomputable section

namespace Cert.Moe

open Cert.ReferenceIdeal Cert.ReferenceIdeal.Gen
open Idealize.ShloMosaic
open Idealize.ShloMosaic.TcCoe

/-- The reference's table of gates. -/
def gates (X : FVec Ideal S512x512 .f32) (R : FVec Ideal S512x4 .f32) : FVec Ideal S512x4 .f32 :=
  Host.dotGeneral dot_S512x512_S512x4_S512x4_1_0_0_1_n_n none X R

/-- The reference's unnormalised weights of a table of gates: `exp` of a gate less its row's largest where the gate is
    at least its row's second largest, zero elsewhere. -/
def masses (g : FVec Ideal S512x4 .f32) : FVec Ideal S512x4 .f32 :=
  select (cmpf .oge g (broadcastInDim S512x4 ![0, 1] bcast_S512x1_S512x4_0_1 (extractStridedSlice S512x1 ![0, 1]
      ((Host.topK S512x2 1 (FloatOps.cmpfTotal .gt) g sliceFits_S512x4_S512x2).1) slices_S512x2_S512x1_0_1)))
    (Host.exp (subf g (broadcastInDim S512x4 ![0, 1] bcast_S512x1_S512x4_0_1 (extractStridedSlice S512x1 ![0, 0]
      ((Host.topK S512x2 1 (FloatOps.cmpfTotal .gt) g sliceFits_S512x4_S512x2).1) slices_S512x2_S512x1_0_0))))
    (broadcastInDim S512x4 ![] bcast_S_S512x4 (id (constant S_ .f32 0x00000000#32)))

/-- Its weights: the same, each divided by its row's sum. -/
def weights (g : FVec Ideal S512x4 .f32) : FVec Ideal S512x4 .f32 :=
  Host.divf (masses g) (broadcastInDim S512x4 ![0, 1] bcast_S512x1_S512x4_0_1 (broadcastInDim S512x1 ![0] bcast_S512_S512x1_0
    (Host.reduceAdd (masses g) (constant S_ .f32 0x00000000#32) reducesTo_S512x4_S512_d1 h_S_)))

/-- Its weighted sum over the four experts, given the weights. -/
def mixed (X : FVec Ideal S512x512 .f32) (A : FVec Ideal S4x512x1024 .f32) (B : FVec Ideal S4x1024x512 .f32) (W : FVec Ideal S512x4 .f32) :
    FVec Ideal S512x512 .f32 :=
  addf (addf (addf (addf (broadcastInDim S512x512 ![] bcast_S_S512x512 (constant S_ .f32 0x00000000#32))
    (mulf (Host.dotGeneral dot_S512x1024_S1024x512_S512x512_1_0_0_1_n_n none (maximumf (Host.dotGeneral dot_S512x512_S512x1024_S512x1024_1_0_0_1_n_n none X
        (shapeCast _ (extractStridedSlice S1x512x1024 ![0, 0, 0] A slices_S4x512x1024_S1x512x1024_0_0_0) shapeCasts_S1x512x1024_S512x1024)) (broadcastInDim S512x1024 ![] bcast_S_S512x1024 (constant S_ .f32 0x00000000#32)))
        (shapeCast _ (extractStridedSlice S1x1024x512 ![0, 0, 0] B slices_S4x1024x512_S1x1024x512_0_0_0) shapeCasts_S1x1024x512_S1024x512))
      (broadcastInDim S512x512 ![0, 1] bcast_S512x1_S512x512_0_1 (extractStridedSlice S512x1 ![0, 0] W slices_S512x4_S512x1_0_0))))
    (mulf (Host.dotGeneral dot_S512x1024_S1024x512_S512x512_1_0_0_1_n_n none (maximumf (Host.dotGeneral dot_S512x512_S512x1024_S512x1024_1_0_0_1_n_n none X
        (shapeCast _ (extractStridedSlice S1x512x1024 ![1, 0, 0] A slices_S4x512x1024_S1x512x1024_1_0_0) shapeCasts_S1x512x1024_S512x1024)) (broadcastInDim S512x1024 ![] bcast_S_S512x1024 (constant S_ .f32 0x00000000#32)))
        (shapeCast _ (extractStridedSlice S1x1024x512 ![1, 0, 0] B slices_S4x1024x512_S1x1024x512_1_0_0) shapeCasts_S1x1024x512_S1024x512))
      (broadcastInDim S512x512 ![0, 1] bcast_S512x1_S512x512_0_1 (extractStridedSlice S512x1 ![0, 1] W slices_S512x4_S512x1_0_1))))
    (mulf (Host.dotGeneral dot_S512x1024_S1024x512_S512x512_1_0_0_1_n_n none (maximumf (Host.dotGeneral dot_S512x512_S512x1024_S512x1024_1_0_0_1_n_n none X
        (shapeCast _ (extractStridedSlice S1x512x1024 ![2, 0, 0] A slices_S4x512x1024_S1x512x1024_2_0_0) shapeCasts_S1x512x1024_S512x1024)) (broadcastInDim S512x1024 ![] bcast_S_S512x1024 (constant S_ .f32 0x00000000#32)))
        (shapeCast _ (extractStridedSlice S1x1024x512 ![2, 0, 0] B slices_S4x1024x512_S1x1024x512_2_0_0) shapeCasts_S1x1024x512_S1024x512))
      (broadcastInDim S512x512 ![0, 1] bcast_S512x1_S512x512_0_1 (extractStridedSlice S512x1 ![0, 2] W slices_S512x4_S512x1_0_2))))
    (mulf (Host.dotGeneral dot_S512x1024_S1024x512_S512x512_1_0_0_1_n_n none (maximumf (Host.dotGeneral dot_S512x512_S512x1024_S512x1024_1_0_0_1_n_n none X
        (shapeCast _ (extractStridedSlice S1x512x1024 ![3, 0, 0] A slices_S4x512x1024_S1x512x1024_3_0_0) shapeCasts_S1x512x1024_S512x1024)) (broadcastInDim S512x1024 ![] bcast_S_S512x1024 (constant S_ .f32 0x00000000#32)))
        (shapeCast _ (extractStridedSlice S1x1024x512 ![3, 0, 0] B slices_S4x1024x512_S1x1024x512_3_0_0) shapeCasts_S1x1024x512_S1024x512))
      (broadcastInDim S512x512 ![0, 1] bcast_S512x1_S512x512_0_1 (extractStridedSlice S512x1 ![0, 3] W slices_S512x4_S512x1_0_3)))

set_option maxRecDepth 16384 in
/-- The reference's result is that sum at the weights of the gates. -/
theorem res_eq (m : (ℓ : Loc nD τ sig) → Buf (Elt Ideal) ℓ) (c : Dev nD) :
    Cert.ReferenceIdeal.Value.res_main_v61 m c
      = mixed (m ((c.tc : Thread nD τ).loc main_arg0)) (m ((c.tc : Thread nD τ).loc main_arg2)) (m ((c.tc : Thread nD τ).loc main_arg3))
          (weights (gates (m ((c.tc : Thread nD τ).loc main_arg0)) (m ((c.tc : Thread nD τ).loc main_arg1)))) := rfl

/-- One gate. -/
theorem gates_apply (X : FVec Ideal S512x512 .f32) (R : FVec Ideal S512x4 .f32) (r : Fin 512) (e : Fin 4) :
    gates X R (ix2 r e) = gate (fun k => X (ix2 r k)) (fun k => R (ix2 k e)) := by
  unfold gate
  pointwise [gates]

/-- One unnormalised weight. -/
theorem masses_apply (g : FVec Ideal S512x4 .f32) (r : Fin 512) (e : Fin 4) :
    masses g (ix2 r e) = mass (top (g (ix2 r 0)) (g (ix2 r 1)) (g (ix2 r 2)) (g (ix2 r 3)))
      (second (g (ix2 r 0)) (g (ix2 r 1)) (g (ix2 r 2)) (g (ix2 r 3))) (g (ix2 r e)) := by
  unfold mass
  rw [← topK_top g sliceFits_S512x4_S512x2 r, ← topK_second g sliceFits_S512x4_S512x2 r]
  generalize hk : (Host.topK (α := Ideal .f32) S512x2 1 (FloatOps.cmpfTotal .gt) g sliceFits_S512x4_S512x2).1 = k
  unfold masses
  rw [hk]
  pointwise [id]

/-- One weight. -/
theorem weights_apply (g : FVec Ideal S512x4 .f32) (r : Fin 512) (e : Fin 4) :
    weights g (ix2 r e) = weight (g (ix2 r 0)) (g (ix2 r 1)) (g (ix2 r 2)) (g (ix2 r 3)) (g (ix2 r e)) := by
  unfold weight
  simp only [← masses_apply]
  pointwise [weights]
  rw [Fin.sum_univ_four]

/-- One element of the weighted sum. -/
theorem mixed_apply (X : FVec Ideal S512x512 .f32) (A : FVec Ideal S4x512x1024 .f32) (B : FVec Ideal S4x1024x512 .f32) (W : FVec Ideal S512x4 .f32)
    (r l : Fin 512) :
    mixed X A B W (ix2 r l) = expert (fun k => X (ix2 r k)) (fun k h => A (ix3 0 k h)) (fun h l => B (ix3 0 h l)) l * W (ix2 r 0)
      + expert (fun k => X (ix2 r k)) (fun k h => A (ix3 1 k h)) (fun h l => B (ix3 1 h l)) l * W (ix2 r 1)
      + expert (fun k => X (ix2 r k)) (fun k h => A (ix3 2 k h)) (fun h l => B (ix3 2 h l)) l * W (ix2 r 2)
      + expert (fun k => X (ix2 r k)) (fun k h => A (ix3 3 k h)) (fun h l => B (ix3 3 h l)) l * W (ix2 r 3) := by
  unfold expert
  pointwise [mixed]

end Cert.Moe

end
-- ==== Proof.Tie.lean ====
/-
  The kernel's result and the reference's, element by element: a device's blocks in the whole arrays, and the equation.
-/
module

public import proofs.«01_k».proof.Proof.KernelValue
public import proofs.«01_k».proof.Proof.RefValue
public import Idealize.ShloMosaic.Lib.Layout

@[expose] public section

noncomputable section

namespace Cert.Tie

open Cert.KernelIdeal Cert.Exchange Cert.Moe
open Idealize.ShloMosaic
open Idealize.ShloMosaic.TcCoe

/-- A device's first mesh coordinate. -/
def px (c : Dev nD) : Fin 2 := ⟨c.val / 4, by have : c.val < 8 := c.isLt; omega⟩

/-- Position `i` of block `p` of an axis of `2 n` cut in two. -/
abbrev at2 {n : ℕ} (p : Fin 2) (i : Fin n) : Fin (2 * n) := ⟨p.val * n + i.val, by have := i.isLt; have := p.isLt; interval_cases p.val <;> omega⟩

theorem lin_x (c : Dev nD) : Layout.meshLin [2, 2, 2] c.val [0] = (px c).val := by revert c; decide

/-- Where an element of a device's block lies in the whole array, for the four layouts. -/
theorem block_rows {α : Type} (v : (⟨2, ![512, 512]⟩ : Shape).Idx → α) (c : Dev nD) (r : Fin 256) (l : Fin 512) :
    (Layout.blockN ⟨2, ![256, 512]⟩ ⟨2, ![512, 512]⟩ (Layout.meshBlock [2, 2, 2] ![[0], []] c) v) (ix2 r l)
      = v (ix2 (at2 (px c) r) l) := by
  rw [Layout.blockN_apply]
  congr 1
  funext a
  apply Fin.ext
  rw [Layout.TilesN.idx_val]
  fin_cases a
  · show Layout.meshLin [2, 2, 2] c.val [0] * 256 + r.val = _
    rw [lin_x]; rfl
  · show 0 * 512 + l.val = l.val
    omega
theorem block_cols {α : Type} (v : (⟨2, ![512, 4]⟩ : Shape).Idx → α) (c : Dev nD) (k : Fin 512) (e : Fin 2) :
    (Layout.blockN ⟨2, ![512, 2]⟩ ⟨2, ![512, 4]⟩ (Layout.meshBlock [2, 2, 2] ![[], [0]] c) v) (ix2 k e)
      = v (ix2 k (at2 (px c) e)) := by
  rw [Layout.blockN_apply]
  congr 1
  funext a
  apply Fin.ext
  rw [Layout.TilesN.idx_val]
  fin_cases a
  · show 0 * 512 + k.val = k.val
    omega
  · show Layout.meshLin [2, 2, 2] c.val [0] * 2 + e.val = _
    rw [lin_x]; rfl
theorem block_slab1 {α : Type} (v : (⟨3, ![4, 512, 1024]⟩ : Shape).Idx → α) (c : Dev nD) (e : Fin 2) (k : Fin 512) (h : Fin 1024) :
    (Layout.blockN ⟨3, ![2, 512, 1024]⟩ ⟨3, ![4, 512, 1024]⟩ (Layout.meshBlock [2, 2, 2] ![[0], [], []] c) v) (ix3 e k h)
      = v (ix3 (at2 (px c) e) k h) := by
  rw [Layout.blockN_apply]
  congr 1
  funext a
  apply Fin.ext
  rw [Layout.TilesN.idx_val]
  fin_cases a
  · show Layout.meshLin [2, 2, 2] c.val [0] * 2 + e.val = _
    rw [lin_x]; rfl
  · show 0 * 512 + k.val = k.val
    omega
  · show 0 * 1024 + h.val = h.val
    omega
theorem block_slab2 {α : Type} (v : (⟨3, ![4, 1024, 512]⟩ : Shape).Idx → α) (c : Dev nD) (e : Fin 2) (h : Fin 1024) (l : Fin 512) :
    (Layout.blockN ⟨3, ![2, 1024, 512]⟩ ⟨3, ![4, 1024, 512]⟩ (Layout.meshBlock [2, 2, 2] ![[0], [], []] c) v) (ix3 e h l)
      = v (ix3 (at2 (px c) e) h l) := by
  rw [Layout.blockN_apply]
  congr 1
  funext a
  apply Fin.ext
  rw [Layout.TilesN.idx_val]
  fin_cases a
  · show Layout.meshLin [2, 2, 2] c.val [0] * 2 + e.val = _
    rw [lin_x]; rfl
  · show 0 * 1024 + h.val = h.val
    omega
  · show 0 * 512 + l.val = l.val
    omega

/-- The two ways a device and its peer can lie: the device holds the lower experts, or the upper ones. -/
theorem sides (c : Dev nD) : (px c = 0 ∧ px (peer c) = 1) ∨ (px c = 1 ∧ px (peer c) = 0) := by revert c; decide

variable (m : (ℓ : Loc nD τ sig) → Buf (Elt Ideal) ℓ)
variable (X : FVec Ideal ⟨2, ![512, 512]⟩ .f32) (R : FVec Ideal ⟨2, ![512, 4]⟩ .f32)
  (A : FVec Ideal ⟨3, ![4, 512, 1024]⟩ .f32) (B : FVec Ideal ⟨3, ![4, 1024, 512]⟩ .f32)

/-- If every device's arguments are its blocks of the whole arrays, then every device's result is its block of what the
    reference computes of them. The two sums over the experts differ in their order and grouping alone. -/
theorem outAt_eq
    (hX : ∀ c : Dev nD, ax m c = Layout.blockN ⟨2, ![256, 512]⟩ ⟨2, ![512, 512]⟩ (Layout.meshBlock [2, 2, 2] ![[0], []] c) X)
    (hR : ∀ c : Dev nD, ar m c = Layout.blockN ⟨2, ![512, 2]⟩ ⟨2, ![512, 4]⟩ (Layout.meshBlock [2, 2, 2] ![[], [0]] c) R)
    (hA : ∀ c : Dev nD, aw1 m c = Layout.blockN ⟨3, ![2, 512, 1024]⟩ ⟨3, ![4, 512, 1024]⟩ (Layout.meshBlock [2, 2, 2] ![[0], [], []] c) A)
    (hB : ∀ c : Dev nD, aw2 m c = Layout.blockN ⟨3, ![2, 1024, 512]⟩ ⟨3, ![4, 1024, 512]⟩ (Layout.meshBlock [2, 2, 2] ![[0], [], []] c) B)
    (c : Dev nD) :
    outAt m c = Layout.blockN ⟨2, ![256, 512]⟩ ⟨2, ![512, 512]⟩ (Layout.meshBlock [2, 2, 2] ![[0], []] c)
      (mixed X A B (weights (gates X R))) := by
  have ex (d : Dev nD) (r l) : ax m d (ix2 r l) = X (ix2 (at2 (px d) r) l) := by rw [hX]; exact block_rows X d r l
  have er (d : Dev nD) (k e) : ar m d (ix2 k e) = R (ix2 k (at2 (px d) e)) := by rw [hR]; exact block_cols R d k e
  have ea (d : Dev nD) (e k h) : aw1 m d (ix3 e k h) = A (ix3 (at2 (px d) e) k h) := by rw [hA]; exact block_slab1 A d e k h
  have eb (d : Dev nD) (e h l) : aw2 m d (ix3 e h l) = B (ix3 (at2 (px d) e) h l) := by rw [hB]; exact block_slab2 B d e h l
  have e00 : at2 (0 : Fin 2) (0 : Fin 2) = (0 : Fin 4) := rfl
  have e01 : at2 (0 : Fin 2) (1 : Fin 2) = (1 : Fin 4) := rfl
  have e10 : at2 (1 : Fin 2) (0 : Fin 2) = (2 : Fin 4) := rfl
  have e11 : at2 (1 : Fin 2) (1 : Fin 2) = (3 : Fin 4) := rfl
  funext i
  obtain ⟨r, l, rfl⟩ : ∃ (r : Fin 256) (l : Fin 512), i = ix2 r l := ⟨i 0, i 1, eq_ix2 i⟩
  refine Eq.trans ?_ (block_rows (mixed X A B (weights (gates X R))) c r l).symm
  rw [mixed_apply]
  simp only [weights_apply]
  generalize hrow : at2 (px c) r = row
  have hg (d : Dev nD) (e : Fin 2) : gates X R (ix2 row (at2 (px d) e)) = gt (ax m c) (ar m d) r e := by
    rw [gates_apply]
    unfold gt
    simp only [ex, er, hrow]
  refine (outAt_apply m c r l _ _ _ _ (hg c 0) (hg c 1) (hg (peer c) 0) (hg (peer c) 1)).trans ?_
  simp only [ex, ea, eb, hrow]
  rcases sides c with ⟨h, h'⟩ | ⟨h, h'⟩
  · rw [h, h', e00, e01, e10, e11]
    exact (add_assoc (G := EReal) _ _ _).symm
  · rw [h, h', e00, e01, e10, e11]
    simp only [weight_swap (gates X R (ix2 row 0)) (gates X R (ix2 row 1))]
    rw [add_comm]
    exact (add_assoc (G := EReal) _ _ _).symm

end Cert.Tie

end
-- ==== Proof.lean ====
module

public import proofs.«01_k».proof.Defs
public import proofs.«01_k».proof.Proof.Tie
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The kernel and its idealization run the same body at each label. -/
theorem bodies_same : Cert.KernelIdeal.defs₀ (F := Bits) = Cert.Kernel.defs₀ (F := Bits) :=
  congrArg Defs.onTc (funext fun l => funext fun a => by
    match l, a with
    | 0, (t, s) => rfl)

/-- The kernel and its idealization have the same table of bodies. -/
theorem tables_same : Cert.KernelIdeal.defs (F := Bits) = Cert.Kernel.defs (F := Bits) :=
  congrArg (Pipeline.defs Cert.Kernel.pcfgs) bodies_same

/-- The kernel, over bit patterns, runs on the eight devices: no fault, arguments unchanged, every semaphore at zero at the
    end. Its text and its idealization's are the same, so the one run over any float values is read here. -/
theorem frame_kernel : Cert.quiescent_Kernel (hKernel := Cert.Kernel.Gen.facts) := fun m ρ _ => by
  rw [← tables_same]
  exact Cert.Exchange.frame (F := Bits) m ρ

/-- The same of its idealization. -/
theorem frame_ideal : Cert.quiescent_KernelIdeal (hKernelIdeal := Cert.KernelIdeal.Gen.facts) := fun m ρ _ =>
  Cert.Exchange.frame (F := Ideal) m ρ

/-- The reference runs, arguments unchanged. It declares no semaphore, so none can end away from zero. -/
theorem frame_reference : Cert.quiescent_ReferenceIdeal (hReferenceIdeal := Cert.ReferenceIdeal.Gen.facts) := fun m ρ _ =>
  (θ_run Cert.ReferenceIdeal.defs _ _).mono (fun _ h => ⟨fun c => (h c).2, sem_eq_zero_of_no_sems (by decide) _⟩)
    (Cert.ReferenceIdeal.Value.run m ρ)

/-- At exact arithmetic, every device's result is its block of the reference's result. -/
theorem algebraic : Cert.algebraic_KernelIdeal_ReferenceIdeal (hKernelIdeal := Cert.KernelIdeal.Gen.facts)
    (hReferenceIdeal := Cert.ReferenceIdeal.Gen.facts) := fun m g m' g' _ hb =>
  ⟨Cert.ReferenceIdeal.Value.res_main_v61 m' 0,
    (θ_run Cert.KernelIdeal.defs _ _).mono (fun _ h c => ⟨(h.1 c).1.trans
      ((Cert.Tie.outAt_eq m _ _ _ _ (fun c => (hb c).1) (fun c => (hb c).2.1) (fun c => (hb c).2.2.1) (fun c => (hb c).2.2.2) c).trans
        (by rw [Cert.Moe.res_eq])), (h.1 c).2⟩) (Cert.Exchange.run_main m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
